-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![2, 256, 8, 64]⟩ ⟨4, ![2, 512, 8, 64]⟩ (Layout.meshBlock [2, 2, 2] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x8x64 : Shape := ⟨4, ![2, 256, 8, 64]⟩
abbrev S2x2x256x8x64 : Shape := ⟨5, ![2, 2, 256, 8, 64]⟩
abbrev S_ : Shape := ⟨0, ![]⟩
abbrev S1x2x256x8x64 : Shape := ⟨5, ![1, 2, 256, 8, 64]⟩
abbrev S1x256x1x64 : Shape := ⟨4, ![1, 256, 1, 64]⟩
abbrev S256x64 : Shape := ⟨2, ![256, 64]⟩
abbrev S1x1x256x1x64 : Shape := ⟨5, ![1, 1, 256, 1, 64]⟩
abbrev S512x64 : Shape := ⟨2, ![512, 64]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2x256x8x64, .bf16⟩
  | .hbm, ⟨1, _⟩ => ⟨S2x256x8x64, .bf16⟩
  | .hbm, ⟨2, _⟩ => ⟨S2x256x8x64, .bf16⟩
  | .hbm, ⟨3, _⟩ => ⟨S2x256x8x64, .f32⟩
  | .local _ .vmem, ⟨0, _⟩ => ⟨S2x256x8x64, .bf16⟩
  | .local _ .vmem, ⟨1, _⟩ => ⟨S2x256x8x64, .bf16⟩
  | .local _ .vmem, ⟨2, _⟩ => ⟨S2x256x8x64, .bf16⟩
  | .local _ .vmem, ⟨3, _⟩ => ⟨S2x256x8x64, .f32⟩
  | .local _ .vmem, ⟨4, _⟩ => ⟨S2x2x256x8x64, .bf16⟩
  | .local _ .vmem, ⟨5, _⟩ => ⟨S2x2x256x8x64, .bf16⟩
  | _, _ => ⟨S2x256x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_26 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_25 : BitVec 32 := 4#32
  let v27 : BitVec 32 := Scalar.muli v9 c4_i32_25
  let v28 : BitVec 32 := Scalar.addi c0_i32_26 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v29 : BitVec 32 := Scalar.muli v5 c2_i32_27
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v31 : BitVec 32 := Scalar.muli v8 c1_i32_28
  let v32 : BitVec 32 := Scalar.addi v30 v31
  v32.toNat
abbrev stage0_0 : Fin 1 → Memref sig .tc .vmem S2x256x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x8x64 : Shape := ⟨4, ![2, 512, 8, 64]⟩
abbrev S2x8x512x512 : Shape := ⟨4, ![2, 8, 512, 512]⟩
abbrev S_ : Shape := ⟨0, ![]⟩
abbrev S2x8x512 : Shape := ⟨3, ![2, 8, 512]⟩
abbrev S2x8x512x1 : Shape := ⟨4, ![2, 8, 512, 1]⟩
abbrev S2x8x64x512 : Shape := ⟨4, ![2, 8, 64, 512]⟩

abbrev nBuf : Space → Nat
  | .hbm => 23
  | .vmem => 0
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S2x512x8x64, .f32⟩
  | .hbm, ⟨4, _⟩ => ⟨S2x512x8x64, .f32⟩
  | .hbm, ⟨5, _⟩ => ⟨S2x512x8x64, .f32⟩
  | .hbm, ⟨6, _⟩ => ⟨S2x8x512x512, .f32⟩
  | .hbm, ⟨7, _⟩ => ⟨S_, .f32⟩
  | .hbm, ⟨8, _⟩ => ⟨S2x8x512x512, .f32⟩
  | .hbm, ⟨9, _⟩ => ⟨S2x8x512x512, .f32⟩
  | .hbm, ⟨10, _⟩ => ⟨S_, .f32⟩
  | .hbm, ⟨11, _⟩ => ⟨S2x8x512, .f32⟩
  | .hbm, ⟨12, _⟩ => ⟨S2x8x512x1, .f32⟩
  | .hbm, ⟨13, _⟩ => ⟨S2x8x512x512, .f32⟩
  | .hbm, ⟨14, _⟩ => ⟨S2x8x512x512, .f32⟩
  | .hbm, ⟨15, _⟩ => ⟨S2x8x512x512, .f32⟩
  | .hbm, ⟨16, _⟩ => ⟨S_, .f32⟩
  | .hbm, ⟨17, _⟩ => ⟨S2x8x512, .f32⟩
  | .hbm, ⟨18, _⟩ => ⟨S2x8x512x1, .f32⟩
  | .hbm, ⟨19, _⟩ => ⟨S2x8x512x512, .f32⟩
  | .hbm, ⟨20, _⟩ => ⟨S2x8x512x512, .f32⟩
  | .hbm, ⟨21, _⟩ => ⟨S2x8x64x512, .f32⟩
  | .hbm, ⟨22, _⟩ => ⟨S2x512x8x64, .f32⟩
  | _, _ => ⟨S2x512x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Contents.lean ====
/-
What the buffers hold, as functions of an index.

A device keeps its own keys and values packed in one buffer (`packed`: half 0 the keys, half 1 the values) and its
partner's in another of the same shape. For each of the two batches and eight heads the kernel cuts one 256×64 matrix of
queries (`queryHead`) and four of keys and values (`packedHead`), and writes one 256×64 matrix of results (`headOut`).
The whole result (`attended`) is stated index by index; `Filled n f` says that a result buffer `f` already agrees with it on
the first `n` heads, and `filled_step` that one more store carries `Filled n` to `Filled (n + 1)`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueIdx
public import Idealize.ShloMosaic.Lib.Pipeline.Value
public import Idealize.ShloMosaic.Lib.Tactic

@[expose] public section

set_option maxRecDepth 16384

noncomputable section

namespace Cert.SwapAttn

open Cert.KernelIdeal Cert.KernelIdeal.Gen
open Idealize.ShloMosaic Idealize.ShloMosaic.ValueIdx

variable {F : FTy → Type} [FloatOps F] {α : Type}

/-! ## Cutting one head out of a block -/

/-- The rows of batch `b`, head `h` of a block, every feature. -/
def queryHead (Q : S2x256x8x64.Idx → α) (b : Fin 2) (h : Fin 8) : S1x256x1x64.Idx → α :=
  fun j => Q (ix4 b (j 1) h (j 3))

/-- The same of half `s` of a packed buffer. -/
def packedHead (B : S2x2x256x8x64.Idx → α) (s b : Fin 2) (h : Fin 8) : S1x1x256x1x64.Idx → α :=
  fun j => B (ix5 s b (j 2) h (j 4))

/-- Keys and values packed in one buffer: half 0 the keys, half 1 the values. -/
def packed (K V : S2x256x8x64.Idx → α) : S2x2x256x8x64.Idx → α :=
  fun i => if (i 0).val = 0 then K (ix4 (i 1) (i 2) (i 3) (i 4)) else V (ix4 (i 1) (i 2) (i 3) (i 4))

/-- One head of the kernel's result from the queries, its own keys, its partner's, its own values, its partner's. -/
def headOut (q : Vec F S1x256x1x64 .bf16) (k₀ k₁ v₀ v₁ : Vec F S1x1x256x1x64 .bf16) : FVec F S1x256x1x64 .f32 :=
  k0_pay8 (k0_pay5 q) (k0_pay6 k₀ k₁) (k0_pay7 v₀) v₁

/-- The kernel's whole result from the queries and the two packed buffers, its own and its partner's. -/
def attended (Q : Vec F S2x256x8x64 .bf16) (own other : Vec F S2x2x256x8x64 .bf16) : FVec F S2x256x8x64 .f32 := fun i =>
  headOut (queryHead Q (i 0) (i 2)) (packedHead own 0 (i 0) (i 2)) (packedHead other 0 (i 0) (i 2))
    (packedHead own 1 (i 0) (i 2)) (packedHead other 1 (i 0) (i 2)) (ix4 0 (i 1) 0 (i 3))

/-! ## Reads and writes through the kernel's rectangles -/

/-- A load of one head of the queries reads that head. -/
theorem read_query (b h : ℕ) (hb : b < 2) (hh : h < 8) (inb : ∀ a, (![b, 0, h, 0] : Fin 4 → ℕ) a + S1x256x1x64.size a ≤ S2x256x8x64.size a)
    (Q : Vec F S2x256x8x64 .bf16) :
    (Memref.whole cc0_stg0_0 : Memref sig .tc .vmem S2x256x8x64 .bf16).view.readAt (Elt F)
        (Rect.unit (s := S2x256x8x64) ![b, 0, h, 0] S1x256x1x64.size inb).toLoadRect Q
      = queryHead Q ⟨b, hb⟩ ⟨h, hh⟩ := by
  funext j
  refine congrArg Q (funext fun a => Fin.ext ?_)
  match a with
  | ⟨0, _⟩ => show b + 1 * (j 0).val = b; have : (j 0).val < 1 := (j 0).isLt; omega
  | ⟨1, _⟩ => show 0 + 1 * (j 1).val = (j 1).val; omega
  | ⟨2, _⟩ => show h + 1 * (j 2).val = h; have : (j 2).val < 1 := (j 2).isLt; omega
  | ⟨3, _⟩ => show 0 + 1 * (j 3).val = (j 3).val; omega

/-- Where a load of half `s`, batch `b`, head `h` of a packed buffer reads. -/
theorem packedRect_idx (s b h : ℕ) (hs : s < 2) (hb : b < 2) (hh : h < 8)
    (inb : ∀ a, (![s, b, 0, h, 0] : Fin 5 → ℕ) a + S1x1x256x1x64.size a ≤ S2x2x256x8x64.size a) (j : S1x1x256x1x64.Idx) :
    (Rect.unit (s := S2x2x256x8x64) ![s, b, 0, h, 0] S1x1x256x1x64.size inb).toLoadRect.idx j
      = ix5 (⟨s, hs⟩ : Fin 2) (⟨b, hb⟩ : Fin 2) (j 2) (⟨h, hh⟩ : Fin 8) (j 4) := by
  funext a; apply Fin.ext
  match a with
  | ⟨0, _⟩ => show s + 1 * (j 0).val = s; have : (j 0).val < 1 := (j 0).isLt; omega
  | ⟨1, _⟩ => show b + 1 * (j 1).val = b; have : (j 1).val < 1 := (j 1).isLt; omega
  | ⟨2, _⟩ => show 0 + 1 * (j 2).val = (j 2).val; omega
  | ⟨3, _⟩ => show h + 1 * (j 3).val = h; have : (j 3).val < 1 := (j 3).isLt; omega
  | ⟨4, _⟩ => show 0 + 1 * (j 4).val = (j 4).val; omega

/-- A load of one head of the device's own packed buffer reads that head. -/
theorem read_own (s b h : ℕ) (hs : s < 2) (hb : b < 2) (hh : h < 8)
    (inb : ∀ a, (![s, b, 0, h, 0] : Fin 5 → ℕ) a + S1x1x256x1x64.size a ≤ S2x2x256x8x64.size a) (B : Vec F S2x2x256x8x64 .bf16) :
    (Memref.whole cc0_scratch0 : Memref sig .tc .vmem S2x2x256x8x64 .bf16).view.readAt (Elt F)
        (Rect.unit (s := S2x2x256x8x64) ![s, b, 0, h, 0] S1x1x256x1x64.size inb).toLoadRect B
      = packedHead B ⟨s, hs⟩ ⟨b, hb⟩ ⟨h, hh⟩ :=
  funext fun j => congrArg B (packedRect_idx s b h hs hb hh inb j)

/-- A load of one head of the partner's packed buffer reads that head. -/
theorem read_other (s b h : ℕ) (hs : s < 2) (hb : b < 2) (hh : h < 8)
    (inb : ∀ a, (![s, b, 0, h, 0] : Fin 5 → ℕ) a + S1x1x256x1x64.size a ≤ S2x2x256x8x64.size a) (B : Vec F S2x2x256x8x64 .bf16) :
    (Memref.whole cc0_scratch1 : Memref sig .tc .vmem S2x2x256x8x64 .bf16).view.readAt (Elt F)
        (Rect.unit (s := S2x2x256x8x64) ![s, b, 0, h, 0] S1x1x256x1x64.size inb).toLoadRect B
      = packedHead B ⟨s, hs⟩ ⟨b, hb⟩ ⟨h, hh⟩ :=
  funext fun j => congrArg B (packedRect_idx s b h hs hb hh inb j)

/-! ## Packing -/

/-- The rectangle of half `s` of the packed buffer. -/
abbrev halfRect (s : ℕ) (inb : ∀ a, (![s, 0, 0, 0, 0] : Fin 5 → ℕ) a + S1x2x256x8x64.size a ≤ S2x2x256x8x64.size a) : Rect S2x2x256x8x64 :=
  Rect.unit (s := S2x2x256x8x64) ![s, 0, 0, 0, 0] S1x2x256x8x64.size inb

/-- A store of half `s` of the packed buffer: that half takes the stored block, the other keeps what it held. -/
theorem write_half (s : ℕ) (hs : s < 2) (inb) (f : Vec F S2x2x256x8x64 .bf16) (w : Vec F S1x2x256x8x64 .bf16) (i : S2x2x256x8x64.Idx) :
    ((Memref.whole cc0_scratch0 : Memref sig .tc .vmem S2x2x256x8x64 .bf16).access (halfRect s inb)).write (Elt F) f w Finset.univ i
      = if (i 0).val = s then w (ix5 (0 : Fin 1) (i 1) (i 2) (i 3) (i 4)) else f i := by
  have hemb (j : S1x2x256x8x64.Idx) :
      ((Memref.whole cc0_scratch0 : Memref sig .tc .vmem S2x2x256x8x64 .bf16).access (halfRect s inb)).emb j
        = ix5 (⟨s, hs⟩ : Fin 2) (j 1) (j 2) (j 3) (j 4) := by
    funext a; apply Fin.ext
    match a with
    | ⟨0, _⟩ => show s + 1 * (j 0).val = s; have : (j 0).val < 1 := (j 0).isLt; omega
    | ⟨1, _⟩ => show 0 + 1 * (j 1).val = (j 1).val; omega
    | ⟨2, _⟩ => show 0 + 1 * (j 2).val = (j 2).val; omega
    | ⟨3, _⟩ => show 0 + 1 * (j 3).val = (j 3).val; omega
    | ⟨4, _⟩ => show 0 + 1 * (j 4).val = (j 4).val; omega
  by_cases h0 : (i 0).val = s
  · rw [if_pos h0]
    have hi : i = ((Memref.whole cc0_scratch0 : Memref sig .tc .vmem S2x2x256x8x64 .bf16).access (halfRect s inb)).emb
        (ix5 (0 : Fin 1) (i 1) (i 2) (i 3) (i 4)) := by
      rw [hemb]
      refine (eq_ix5 i).trans ?_
      have : i 0 = (⟨s, hs⟩ : Fin 2) := Fin.ext h0
      rw [this]
      rfl
    exact (congrArg _ hi).trans (View.write_emb_of_mem _ _ (Finset.mem_univ _))
  · rw [if_neg h0]
    refine View.write_of_not_mem _ _ _ fun hm => ?_
    rw [View.setOn_univ] at hm
    obtain ⟨j, -, hj⟩ := Finset.mem_map.1 hm
    rw [hemb] at hj
    exact h0 (by rw [← hj])

/-- A block stored as one half: the same elements under one more leading axis, of extent one. -/
theorem stored_apply (X : S2x256x8x64.Idx → α) (h h') (i : S1x2x256x8x64.Idx) :
    shapeCast S1x2x256x8x64 (shapeCast S2x256x8x64 X h) h' i = X (ix4 (i 1) (i 2) (i 3) (i 4)) := by
  rw [shapeCast_self]
  refine (shapeCast_addUnit_apply ![2, 256, 8, 64] X h' i).trans (congrArg X (funext fun a => ?_))
  match a with
  | ⟨0, _⟩ => rfl
  | ⟨1, _⟩ => rfl
  | ⟨2, _⟩ => rfl
  | ⟨3, _⟩ => rfl

/-- The two stores of the kernel leave the packed keys and values, whatever the buffer held before. -/
theorem packed_of_stores (inb₀ inb₁) (K V : Vec F S2x256x8x64 .bf16) (f : Vec F S2x2x256x8x64 .bf16) :
    ((Memref.whole cc0_scratch0 : Memref sig .tc .vmem S2x2x256x8x64 .bf16).access (halfRect 1 inb₁)).write (Elt F)
        (((Memref.whole cc0_scratch0 : Memref sig .tc .vmem S2x2x256x8x64 .bf16).access (halfRect 0 inb₀)).write (Elt F) f (k0_pay2 K) Finset.univ)
        (k0_pay4 (k0_pay3 V)) Finset.univ
      = packed K V := by
  funext i
  rw [write_half 1 (by decide), write_half 0 (by decide)]
  rw [show ∀ j, k0_pay4 (k0_pay3 V) j = _ from stored_apply V _ _, show ∀ j, k0_pay2 K j = _ from stored_apply K _ _]
  have h2 : (i 0).val < 2 := (i 0).isLt
  by_cases h0 : (i 0).val = 0
  · rw [if_neg (by omega), if_pos h0]; exact (if_pos h0).symm
  · rw [if_pos (by omega)]; exact (if_neg h0).symm

/-! ## Filling the result -/

/-- The first `n` heads of `f`, counted batch by batch, hold the result `G`. -/
def Filled (G : FVec F S2x256x8x64 .f32) (n : ℕ) (f : FVec F S2x256x8x64 .f32) : Prop :=
  ∀ i : S2x256x8x64.Idx, 8 * (i 0).val + (i 2).val < n → f i = G i

theorem filled_zero (G f : FVec F S2x256x8x64 .f32) : Filled G 0 f := fun _ h => absurd h (Nat.not_lt_zero _)

/-- All sixteen heads are the whole block. -/
theorem filled_all {G f : FVec F S2x256x8x64 .f32} (h : Filled G 16 f) : f = G := by
  funext i
  have h0 : (i 0).val < 2 := (i 0).isLt
  have h2 : (i 2).val < 8 := (i 2).isLt
  exact h i (by omega)

/-- One more store fills one more head. -/
theorem filled_step (b h : ℕ) (hb : b < 2) (hh : h < 8) (inb : ∀ a, (![b, 0, h, 0] : Fin 4 → ℕ) a + S1x256x1x64.size a ≤ S2x256x8x64.size a)
    (G f : FVec F S2x256x8x64 .f32) (w : FVec F S1x256x1x64 .f32) (hf : Filled G (8 * b + h) f)
    (hw : ∀ j : S1x256x1x64.Idx, w j = G (ix4 (⟨b, hb⟩ : Fin 2) (j 1) (⟨h, hh⟩ : Fin 8) (j 3))) :
    Filled G (8 * b + h + 1)
      (((Memref.whole cc0_stg3_0 : Memref sig .tc .vmem S2x256x8x64 .f32).access
        (Rect.unit (s := S2x256x8x64) ![b, 0, h, 0] S1x256x1x64.size inb)).write (Elt F) f w Finset.univ) := by
  intro i hi
  have hemb (j : S1x256x1x64.Idx) :
      ((Memref.whole cc0_stg3_0 : Memref sig .tc .vmem S2x256x8x64 .f32).access
        (Rect.unit (s := S2x256x8x64) ![b, 0, h, 0] S1x256x1x64.size inb)).emb j
        = ix4 (⟨b, hb⟩ : Fin 2) (j 1) (⟨h, hh⟩ : Fin 8) (j 3) := by
    funext a; apply Fin.ext
    match a with
    | ⟨0, _⟩ => show b + 1 * (j 0).val = b; have : (j 0).val < 1 := (j 0).isLt; omega
    | ⟨1, _⟩ => show 0 + 1 * (j 1).val = (j 1).val; omega
    | ⟨2, _⟩ => show h + 1 * (j 2).val = h; have : (j 2).val < 1 := (j 2).isLt; omega
    | ⟨3, _⟩ => show 0 + 1 * (j 3).val = (j 3).val; omega
  have hi2 : (i 2).val < 8 := (i 2).isLt
  by_cases hm : (i 0).val = b ∧ (i 2).val = h
  · have e0 : i 0 = (⟨b, hb⟩ : Fin 2) := Fin.ext hm.1
    have e2 : i 2 = (⟨h, hh⟩ : Fin 8) := Fin.ext hm.2
    have hi' : i = ((Memref.whole cc0_stg3_0 : Memref sig .tc .vmem S2x256x8x64 .f32).access
        (Rect.unit (s := S2x256x8x64) ![b, 0, h, 0] S1x256x1x64.size inb)).emb (ix4 (0 : Fin 1) (i 1) (0 : Fin 1) (i 3)) := by
      rw [hemb]
      refine (eq_ix4 i).trans ?_
      rw [e0, e2]
      rfl
    refine ((congrArg _ hi').trans (View.write_emb_of_mem _ _ (Finset.mem_univ _))).trans ((hw _).trans (congrArg G ?_))
    exact (hi'.trans (hemb _)).symm
  · refine (View.write_of_not_mem _ _ _ fun hmem => hm ?_).trans (hf i (by omega))
    rw [View.setOn_univ] at hmem
    obtain ⟨j, -, hj⟩ := Finset.mem_map.1 hmem
    rw [hemb] at hj
    exact ⟨by rw [← hj], by rw [← hj]⟩

end Cert.SwapAttn

end
-- ==== Proof.Protocol.lean ====
/-
The exchange between a device and its partner, as a schedule of payments.

The eight devices form a 2×2×2 mesh; a device's partner is the one across the first axis (`peer`), and partners exchange
nothing with anybody else. Each device has three counters, indexed by `Fin 3`: its barrier (0), the completion of its own
transfer (1), and the arrival of its partner's (2). Each counter is paid once:

  0  one unit, by the partner's signal, which hands over the partner's landing buffer, so that the transfer may write it;
  1  the transfer's credit, by the own transfer, which hands the device its packed keys and values back;
  2  the same credit, by the partner's transfer, which hands the device its landing buffer holding the partner's.

All facts about the schedule are stated for a counter `k` of a device `c`, once for the three.
-/
module

public import proofs.«01_k».proof.Proof.Contents
public import Idealize.ShloMosaic.Lib.Pipeline.Launch
public import Idealize.ShloMosaic.Lib.Pipeline.Kit

@[expose] public section

set_option maxRecDepth 16384

noncomputable section

namespace Cert.SwapAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's part and the exchange's -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## Partners -/

/-- The device across the mesh's first axis. -/
def peer (c : Dev nD) : Dev nD := ⟨(c.val + 4) % 8, Nat.mod_lt _ (by decide)⟩

theorem peer_peer (c : Dev nD) : peer (peer c) = c := by revert c; decide

/-- Partners, as a permutation of the devices. -/
def swap : Dev nD ≃ Dev nD := ⟨peer, peer, peer_peer, peer_peer⟩

/-- The signal goes to the partner. -/
theorem signal_dev (c : Dev nD) : (⟨k0_dev1 c, k0_dev1_lt c⟩ : Dev nD) = peer c :=
  Fin.ext ((k0_dev1_eq c).trans (by revert c; decide))

/-- So does the transfer. -/
theorem send_dev (c : Dev nD) : (⟨k0_dev2 c, k0_dev2_lt c⟩ : Dev nD) = peer c :=
  Fin.ext ((k0_dev2_eq c).trans (by revert c; decide))

/-! ## Counters -/

/-- The three semaphores of the exchange. -/
abbrev semOf : Fin 3 → SemLoc sig
  | 0 => .reg (SemArray.scalar (sig.barrier 0 rfl) : Sems sig S_).sem
  | 1 => .dma cc0_scratch2.sem
  | 2 => .dma cc0_scratch3.sem

/-- Counter `k` of device `c`. -/
abbrev cell (c : Dev nD) (k : Fin 3) : GSem nD τ sig := ((c : Thread nD τ), semOf k)

/-- Which of the three a semaphore is, if any. -/
def role (s : SemLoc sig) : Option (Fin 3) :=
  if s = semOf 0 then some 0 else if s = semOf 1 then some 1 else if s = semOf 2 then some 2 else none

theorem role_semOf : ∀ k : Fin 3, role (semOf k) = some k := by decide

theorem semOf_injective : Function.Injective semOf := fun j k h => by
  have e := congrArg role h
  rw [role_semOf, role_semOf] at e
  exact Option.some.inj e

theorem cell_inj {c c' : Dev nD} {k k' : Fin 3} (h : cell c k = cell c' k') : c = c' ∧ k = k' :=
  ⟨congrArg (fun g : GSem nD τ sig => g.1.1) h, semOf_injective (congrArg Prod.snd h)⟩

/-- The credit of one transfer of a packed buffer. -/
abbrev N : ℕ := (Memref.whole cc0_scratch1 : Memref sig .tc .vmem S2x2x256x8x64 .bf16).view.dmaCredit

theorem N_pos : 0 < N := View.dmaCredit_pos _ (by decide)

/-- What a counter is paid. -/
def due (k : Fin 3) : ℕ := if k = 0 then 1 else N

/-! ## Buffers -/

/-- Device `c`'s buffer `b`, whole, holding `f`. -/
abbrev buf (c : Dev nD) (b : Ref sig .tc) (f : b.ty.Contents (Elt F)) : sProp 𝕄 := ((c : Thread nD τ).loc b) ↦{fullShare} f

instance buf_storable (c : Dev nD) (b : Ref sig .tc) (f) : BI.Storable (upEmb : UEmb _ 𝕄) (buf (F := F) c b f) := by
  unfold buf; infer_instance

/-- The elements under the whole view are the whole buffer. -/
theorem under_whole (c : Dev nD) (b : Ref sig .tc) (f : b.ty.Contents (Elt F)) :
    ((View.whole b).loc (c : Thread nD τ) ↦[(View.whole b).set]{fullShare} f : sProp 𝕄) = buf c b f := by
  unfold buf; rw [View.set_whole]

variable (m : (ℓ : Loc nD τ sig) → Buf (Elt F) ℓ)

/-- Device `c`'s blocks of the three arguments, as the pipeline stages them. -/
def inQ (c : Dev nD) : Vec F S2x256x8x64 .bf16 := (win0_0.blk (0 : Fin 1)).view.read (Elt F) (m ((c : Thread nD τ).loc main_arg0))
def inK (c : Dev nD) : Vec F S2x256x8x64 .bf16 := (win0_1.blk (0 : Fin 1)).view.read (Elt F) (m ((c : Thread nD τ).loc main_arg1))
def inV (c : Dev nD) : Vec F S2x256x8x64 .bf16 := (win0_2.blk (0 : Fin 1)).view.read (Elt F) (m ((c : Thread nD τ).loc main_arg2))

/-- Device `c`'s keys and values, packed. -/
def pack (c : Dev nD) : Vec F S2x2x256x8x64 .bf16 := packed (inK m c) (inV m c)

/-! ## The schedule -/

/-- What the payment of counter `k` hands device `c`. -/
def handed (c : Dev nD) : Fin 3 → sProp 𝕄
  | 0 => iprop((∃ f, buf (peer c) cc0_scratch1 f) ∗ reached EX (cell (peer c) 2) 0)
  | 1 => buf c cc0_scratch0 (pack m c)
  | 2 => buf c cc0_scratch1 (pack m (peer c))

instance handed_storable (c : Dev nD) (k : Fin 3) : BI.Storable (upEmb : UEmb _ 𝕄) (handed m c k) := by
  match k with
  | 0 => unfold handed; infer_instance
  | 1 => unfold handed; infer_instance
  | 2 => unfold handed; infer_instance

/-- One round, with one payment for each of the counters. -/
def sched : Rounds.Schedule (GSem nD τ sig) Unit 𝕄 where
  duties g r := if r = 0 ∧ g.1.2 = .tc ∧ (role g.2).isSome then {()} else ∅
  unitless _ := False
  amount g _ _ := (role g.2).elim 1 due
  payload g _ _ := (role g.2).elim iprop(emp) (handed m g.1.1)
  amount_pos g _ _ _ := by
    cases role g.2 with
    | none => exact Nat.one_pos
    | some k =>
      show 0 < due k
      unfold due
      split
      · exact Nat.one_pos
      · exact N_pos

instance sched_storable (g : GSem nD τ sig) (r : ℕ) (d : Unit) : BI.Storable (upEmb : UEmb _ 𝕄) ((sched m).payload g r d) := by
  show BI.Storable upEmb ((role g.2).elim iprop(emp) (handed m g.1.1))
  cases role g.2 with
  | none => exact (inferInstance : BI.Storable upEmb (iprop(emp) : sProp 𝕄))
  | some k => exact handed_storable m g.1.1 k

section Counter

variable (c : Dev nD) (k : Fin 3)

theorem duties_cell : (sched m).duties (cell c k) 0 = {()} := if_pos ⟨rfl, rfl, by rw [show role (cell c k).2 = _ from role_semOf k]; rfl⟩

theorem mem_duties : () ∈ (sched m).duties (cell c k) 0 := by rw [duties_cell]; exact Finset.mem_singleton_self _

/-- No counter is paid after round 0. -/
theorem duties_after (g : GSem nD τ sig) (r : ℕ) (hr : 1 ≤ r) : (sched m).duties g r = ∅ := if_neg fun h => by omega

theorem amount_cell (d : Unit) : (sched m).amount (cell c k) 0 d = due k := by
  show (role (semOf k)).elim 1 due = due k
  rw [role_semOf]; rfl

theorem payload_cell (d : Unit) : (sched m).payload (cell c k) 0 d = handed m c k := by
  show (role (semOf k)).elim iprop(emp) (handed m c) = handed m c k
  rw [role_semOf]; rfl

theorem expect_cell : (sched m).expect (cell c k) 0 = due k := by
  unfold Schedule.expect Schedule.amountOf
  rw [duties_cell, Finset.sum_singleton, amount_cell]

/-- A wait for the whole round takes what the payment hands over. -/
theorem rest_cell : bigSep ((sched m).duties (cell c k) 0 \ ∅) (fun d => (sched m).payload (cell c k) 0 d) = handed m c k := by
  rw [Finset.sdiff_empty, duties_cell, bigSep_singleton, payload_cell]

end Counter

/-! ## What a device owes, and the order of the waits -/

/-- At launch a device owes its partner the transfer and the signal. -/
def owed₀ (c : Dev nD) : CellTallies nD τ sig Unit := tallyAt (cell (peer c) 2) () N + tallyAt (cell (peer c) 0) () 1

def names (g : GSem nD τ sig) : Finset Unit := if g.1.2 = .tc then {()} else ∅

/-- The level of a counter: the barrier below the arrival, every other semaphore below both. -/
def level (g : GSem nD τ sig) (_ : Unit) : ℕ := (role g.2).elim 0 fun k => if k = 0 then 1 else if k = 2 then 2 else 0

theorem names_off (g : GSem nD τ sig) (h : g.1.2 ≠ .tc) : names g = ∅ := if_neg h

theorem level_cell (c : Dev nD) (k : Fin 3) (u : Unit) : level (cell c k) u = if k = 0 then 1 else if k = 2 then 2 else 0 := by
  show (role (semOf k)).elim 0 _ = _
  rw [role_semOf]; rfl

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem owed₀_pos {c : Dev nD} {g : GSem nD τ sig} {u : Unit} (h : 0 < owed₀ c g u) : g = cell (peer c) 2 ∨ g = cell (peer c) 0 := by
  unfold owed₀ at h
  rw [Pi.add_apply, Finsupp.add_apply] at h
  rcases Nat.add_pos_iff_pos_or_pos.mp h with h | h
  · exact .inl (tallyAt_pos h)
  · exact .inr (tallyAt_pos h)

/-- A wait on a semaphore outside the exchange is below everything owed at launch. -/
theorem mayWait_outside (c : Dev nD) (s : SemLoc sig) (hs : role s = none) :
    (levAts names level : sProp 𝕄) ⊢ MayWait (c : Thread nD τ) s () (owed₀ c) :=
  Pipeline.mayWait_of_levAts (Finset.mem_singleton_self _) fun g u hg => by
    have h0 : level ((c : Thread nD τ), s) () = 0 := by show (role s).elim 0 _ = 0; rw [hs]; rfl
    rw [h0]
    rcases owed₀_pos hg with rfl | rfl
    · exact ⟨Finset.mem_singleton_self _, by rw [level_cell]; decide⟩
    · exact ⟨Finset.mem_singleton_self _, by rw [level_cell]; decide⟩

/-- At its barrier a device owes its partner the transfer alone, whose arrival is above the barrier. -/
theorem mayWait_barrier (c : Dev nD) :
    (levAts names level : sProp 𝕄) ⊢ MayWait (c : Thread nD τ) (semOf 0) () (tallyAt (cell (peer c) 2) () N) :=
  Pipeline.mayWait_of_levAts (Finset.mem_singleton_self _) fun g u hg => by
    rw [tallyAt_pos hg, show level ((c : Thread nD τ), semOf 0) () = 1 from level_cell c 0 ()]
    exact ⟨Finset.mem_singleton_self _, by rw [level_cell]; decide⟩

end Cert.SwapAttn

end
-- ==== Proof.Heads.lean ====
/-
One head of the kernel's result.

Once the exchange is done, the kernel computes its sixteen heads one after the other. `Held n` is what a device holds when
the first `n` of them are stored: its queries, the two packed buffers, and a result buffer filled that far. `wp_head` runs the
six loads and the store of one head, whichever it is, from `Held n` to `Held (n + 1)`.
-/
module

public import proofs.«01_k».proof.Proof.Protocol

@[expose] public section

set_option maxRecDepth 16384

noncomputable section

namespace Cert.SwapAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The kernel's buffers, whole. -/
abbrev mQ : Memref sig .tc .vmem S2x256x8x64 .bf16 := Memref.whole cc0_stg0_0
abbrev mK : Memref sig .tc .vmem S2x256x8x64 .bf16 := Memref.whole cc0_stg1_0
abbrev mV : Memref sig .tc .vmem S2x256x8x64 .bf16 := Memref.whole cc0_stg2_0
abbrev mO : Memref sig .tc .vmem S2x256x8x64 .f32 := Memref.whole cc0_stg3_0
abbrev mOwn : Memref sig .tc .vmem S2x2x256x8x64 .bf16 := Memref.whole cc0_scratch0
abbrev mOther : Memref sig .tc .vmem S2x2x256x8x64 .bf16 := Memref.whole cc0_scratch1

/-- The rectangle of one head of a block, and of one head of half `s` of a packed buffer. -/
abbrev headRect (b h : ℕ) (inb : ∀ a, (![b, 0, h, 0] : Fin 4 → ℕ) a + S1x256x1x64.size a ≤ S2x256x8x64.size a) : Rect S2x256x8x64 :=
  Rect.unit (s := S2x256x8x64) ![b, 0, h, 0] S1x256x1x64.size inb
abbrev packedRect (s b h : ℕ) (inb : ∀ a, (![s, b, 0, h, 0] : Fin 5 → ℕ) a + S1x1x256x1x64.size a ≤ S2x2x256x8x64.size a) : Rect S2x2x256x8x64 :=
  Rect.unit (s := S2x2x256x8x64) ![s, b, 0, h, 0] S1x1x256x1x64.size inb

/-- What device `c` holds when the first `n` heads are stored. -/
def Held (c : Dev nD) (Q : Vec F S2x256x8x64 .bf16) (own other : Vec F S2x2x256x8x64 .bf16) (n : ℕ) : sProp 𝕄 :=
  iprop(buf c cc0_stg0_0 Q ∗ buf c cc0_scratch0 own ∗ buf c cc0_scratch1 other
    ∗ ∃ f : Vec F S2x256x8x64 .f32, ⌜Filled (attended Q own other) n f⌝ ∗ buf c cc0_stg3_0 f)

theorem held_zero (c : Dev nD) (Q : Vec F S2x256x8x64 .bf16) (own other : Vec F S2x2x256x8x64 .bf16) (f : Vec F S2x256x8x64 .f32) :
    iprop(buf c cc0_stg0_0 Q ∗ buf c cc0_scratch0 own ∗ buf c cc0_scratch1 other ∗ buf c cc0_stg3_0 f) ⊢ (Held c Q own other 0 : sProp 𝕄) := by
  unfold Held
  iintro ⟨HQ, Hown, Hoth, HO⟩
  isplitl [HQ]; · iexact HQ
  isplitl [Hown]; · iexact Hown
  isplitl [Hoth]; · iexact Hoth
  iexists f
  isplitr
  · ipureintro; exact filled_zero _ _
  · iexact HO

/-- With all sixteen heads stored the result buffer holds the whole result. -/
theorem held_all (c : Dev nD) (Q : Vec F S2x256x8x64 .bf16) (own other : Vec F S2x2x256x8x64 .bf16) :
    (Held c Q own other 16 : sProp 𝕄)
      ⊢ iprop(buf c cc0_stg0_0 Q ∗ buf c cc0_scratch0 own ∗ buf c cc0_scratch1 other ∗ buf c cc0_stg3_0 (attended Q own other)) := by
  unfold Held
  iintro ⟨HQ, Hown, Hoth, ⟨%f, %hf, HO⟩⟩
  rw [filled_all hf]
  isplitl [HQ]; · iexact HQ
  isplitl [Hown]; · iexact Hown
  isplitl [Hoth] <;> iassumption

/-- The six loads and the store of head `h` of batch `b`. -/
theorem wp_head (c : Dev nD) (Q : Vec F S2x256x8x64 .bf16) (own other : Vec F S2x2x256x8x64 .bf16) (b h : ℕ) (hb : b < 2) (hh : h < 8)
    {i₀ i₁ i₂ i₃ i₄ i₅ i₆}
    {l₀ : mQ.view.LoadsAt (headRect b h i₀).toLoadRect} {l₁ : mOwn.view.LoadsAt (packedRect 0 b h i₁).toLoadRect}
    {l₂ : mOther.view.LoadsAt (packedRect 0 b h i₂).toLoadRect} {l₃ : mOwn.view.LoadsAt (packedRect 1 b h i₃).toLoadRect}
    {l₄ : mOther.view.LoadsAt (packedRect 1 b h i₄).toLoadRect} {l₅ : mO.view.LoadsAt (headRect b h i₅).toLoadRect}
    {hx : (mO.access (headRect b h i₆)).Stores Finset.univ} {hm}
    {α : Type} {R : α → sProp 𝕄} {k : PUnit → Prog (TpuEff nD τ sig (Elt F) Λ₀ .tc) α} :
    Held c Q own other (8 * b + h)
      ⊢ iprop((Held c Q own other (8 * b + h + 1) -∗ wp frame (wpE (defs₀ (F := F)) Variants.none (c : Thread nD τ) none) Set.univ (k ⟨⟩) R)
          -∗ wp frame (wpE (defs₀ (F := F)) Variants.none (c : Thread nD τ) none) Set.univ
            (.op (.load mQ (headRect b h i₀).toLoadRect l₀) fun q =>
             .op (.load mOwn (packedRect 0 b h i₁).toLoadRect l₁) fun k₀ =>
             .op (.load mOther (packedRect 0 b h i₂).toLoadRect l₂) fun k₁ =>
             .op (.load mOwn (packedRect 1 b h i₃).toLoadRect l₃) fun v₀ =>
             .op (.load mOther (packedRect 1 b h i₄).toLoadRect l₄) fun v₁ =>
             .op (.load mO (headRect b h i₅).toLoadRect l₅) fun _ =>
             .op (.store mO (headRect b h i₆) (headOut q k₀ k₁ v₀ v₁) Finset.univ hx hm) k) R) := by
  unfold Held buf
  iintro ⟨HQ, Hown, Hoth, ⟨%f, %hf, HO⟩⟩ Hk
  iapply (wp_load Variants.none (c : Thread nD τ) none Set.univ (m := mQ) (Finset.subset_univ _)) $$ HQ; iintro HQ
  iapply (wp_load Variants.none (c : Thread nD τ) none Set.univ (m := mOwn) (Finset.subset_univ _)) $$ Hown; iintro Hown
  iapply (wp_load Variants.none (c : Thread nD τ) none Set.univ (m := mOther) (Finset.subset_univ _)) $$ Hoth; iintro Hoth
  iapply (wp_load Variants.none (c : Thread nD τ) none Set.univ (m := mOwn) (Finset.subset_univ _)) $$ Hown; iintro Hown
  iapply (wp_load Variants.none (c : Thread nD τ) none Set.univ (m := mOther) (Finset.subset_univ _)) $$ Hoth; iintro Hoth
  iapply (wp_load Variants.none (c : Thread nD τ) none Set.univ (m := mO) (Finset.subset_univ _)) $$ HO; iintro HO
  iapply (wp_store Variants.none (c : Thread nD τ) none Set.univ (m := mO) (r := headRect b h i₆) (Mk := Finset.univ) (Finset.subset_univ _)) $$ HO
  iintro HO
  iapply Hk
  isplitl [HQ]; · iexact HQ
  isplitl [Hown]; · iexact Hown
  isplitl [Hoth]; · iexact Hoth
  iexists _
  isplitr
  rotate_left
  · iexact HO
  · ipureintro
    refine filled_step b h hb hh i₆ (attended Q own other) f _ hf fun j => ?_
    rw [read_query b h hb hh, read_own 0 b h (by decide) hb hh, read_other 0 b h (by decide) hb hh,
      read_own 1 b h (by decide) hb hh, read_other 1 b h (by decide) hb hh]
    refine congrArg _ (funext fun a => ?_)
    match a with
    | ⟨0, _⟩ => exact Fin.ext (by show (j 0).val = 0; have : (j 0).val < 1 := (j 0).isLt; omega)
    | ⟨1, _⟩ => rfl
    | ⟨2, _⟩ => exact Fin.ext (by show (j 2).val = 0; have : (j 2).val < 1 := (j 2).isLt; omega)
    | ⟨3, _⟩ => rfl

end Cert.SwapAttn

end
-- ==== Proof.Body.lean ====
/-
The kernel's body on one device, from what the launch gives it to what it leaves.

`sound_body` runs it in program order: the signal to the partner (with the landing buffer), the wait on the barrier (which
brings the partner's landing buffer), the two stores that pack keys and values, the transfer, the wait for its completion
(the packed buffer comes back), the wait for the arrival (the landing buffer comes back, holding the partner's), then the
sixteen heads by `wp_head`.
-/
module

public import proofs.«01_k».proof.Proof.Heads
public import proofs.«01_k».proof.Proof.Gen.KernelIdeal.Points

@[expose] public section

set_option maxRecDepth 16384

noncomputable section

namespace Cert.SwapAttn

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- Device `c`'s result. -/
def out (c : Dev nD) : FVec F S2x256x8x64 .f32 := attended (inQ m c) (pack m c) (pack m (peer c))

/-! ## What a device starts from and what it leaves -/

/-- The facts every device shares: the counters' invariants, under the names `K`, and that round 0 is reached. -/
def records (K : Dev nD × Fin 3 → ℕ) : sProp 𝕄 :=
  iprop((bigSep Finset.univ fun x : Dev nD × Fin 3 => cellInv EX (sched m) (K x) (cell x.1 x.2))
    ∗ bigSep Finset.univ fun x : Dev nD × Fin 3 => reached EX (cell x.1 x.2) 0)

instance records_persistent (K : Dev nD × Fin 3 → ℕ) : BI.Persistent (records m K) := by unfold records; infer_instance

theorem records_inv (K : Dev nD × Fin 3 → ℕ) (c : Dev nD) (k : Fin 3) : records m K ⊢ cellInv EX (sched m) (K (c, k)) (cell c k) := by
  have at_ck : (bigSep Finset.univ fun x : Dev nD × Fin 3 => (cellInv EX (sched m) (K x) (cell x.1 x.2) : sProp 𝕄))
      ⊢ cellInv EX (sched m) (K (c, k)) (cell c k) := bigSep_elim (Finset.mem_univ (c, k))
  unfold records
  iintro ⟨H, -⟩
  iapply at_ck
  iexact H

theorem records_reached (K : Dev nD × Fin 3 → ℕ) (c : Dev nD) (k : Fin 3) : records m K ⊢ (reached EX (cell c k) 0 : sProp 𝕄) := by
  have at_ck : (bigSep Finset.univ fun x : Dev nD × Fin 3 => (reached EX (cell x.1 x.2) 0 : sProp 𝕄))
      ⊢ reached EX (cell c k) 0 := bigSep_elim (Finset.mem_univ (c, k))
  unfold records
  iintro ⟨-, H⟩
  iapply at_ck
  iexact H

/-- Device `c`'s positions at its three counters. -/
def positions (c : Dev nD) : sProp 𝕄 := iprop(atPos EX (cell c 0) 0 ∅ 0 ∗ atPos EX (cell c 1) 0 ∅ 0 ∗ atPos EX (cell c 2) 0 ∅ 0)

/-- The payments that are device `c`'s to make: its partner's barrier, its own completion, its partner's arrival. -/
def payments (c : Dev nD) : sProp 𝕄 :=
  iprop(dutyTok EX (cell (peer c) 0) 0 () ∗ dutyTok EX (cell c 1) 0 () ∗ dutyTok EX (cell (peer c) 2) 0 ())

def ghost (K : Dev nD × Fin 3 → ℕ) (c : Dev nD) : sProp 𝕄 := iprop(records m K ∗ positions c ∗ payments c)

/-- What the launch gives device `c` besides its buffers: that, the credits it waits with, the order of the waits. -/
def start (c : Dev nD) : sProp 𝕄 :=
  iprop((∃ K, ghost m K c) ∗ (cred (tallyAt (cell c 0) () 1) ∗ cred (tallyAt (cell c 2) () N)) ∗ levAts names level)

def before (c : Dev nD) : sProp 𝕄 := iprop(start m c ∗ (∃ f, buf c cc0_scratch0 f) ∗ ∃ f, buf c cc0_scratch1 f)

/-- At the end: the two packed buffers, and the three counters at zero. -/
def done (c : Dev nD) : sProp 𝕄 :=
  iprop((buf c cc0_scratch0 (pack m c) ∗ buf c cc0_scratch1 (pack m (peer c)))
    ∗ semVal (cell c 0) 0 ∗ semVal (cell c 1) 0 ∗ semVal (cell c 2) 0)

def dats (_ : Fin 1) (c : Dev nD) : Dat τ (Elt F) Unit ℕ UU ℕ cfg0 c where
  A w := m ((cfg0.win w).arr.view.loc (c : Thread nD τ))
  after w _ := match w with
    | ⟨0, _⟩ => inQ m c
    | ⟨1, _⟩ => inK m c
    | ⟨2, _⟩ => inV m c
    | ⟨3, _⟩ => out m c
  Φ t := match t with
    | ⟨0, _⟩ => before m c
    | ⟨_ + 1, _⟩ => done m c
  q _ := fullShare
  owed t := match t with
    | ⟨0, _⟩ => owed₀ c
    | ⟨_ + 1, _⟩ => 0

/-- The pipeline's one point. -/
abbrev pt : Fin cfg0.N := t0_0

/-- Device `c`'s staging buffer `b` holding `X`, as the pipeline hands it to the body. -/
abbrev staged (c : Dev nD) (b : Ref sig .tc) (X : b.ty.Contents (Elt F)) : sProp 𝕄 := iprop(∃ f : b.ty.Contents (Elt F), ⌜f = X⌝ ∗ buf c b f)

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns staged buf; simp only [Memref.view_whole, View.read_whole, View.set_whole]

def bodyPre (c : Dev nD) : sProp 𝕄 :=
  iprop(before m c ∗ (dats m 0 c).owesAt () pt.castSucc
    ∗ (∃ d, staged c cc0_stg0_0 ((dats m 0 c).before (0 : Fin 4) pt d))
    ∗ (∃ d, staged c cc0_stg1_0 ((dats m 0 c).before (1 : Fin 4) pt d))
    ∗ (∃ d, staged c cc0_stg2_0 ((dats m 0 c).before (2 : Fin 4) pt d))
    ∗ (∃ d, staged c cc0_stg3_0 ((dats m 0 c).before (3 : Fin 4) pt d)))

def bodyPost (c : Dev nD) : sProp 𝕄 :=
  iprop(done m c ∗ (dats m 0 c).owesAt () pt.succ
    ∗ staged c cc0_stg0_0 (inQ m c) ∗ staged c cc0_stg1_0 (inK m c) ∗ staged c cc0_stg2_0 (inV m c) ∗ staged c cc0_stg3_0 (out m c))

/-! ## The steps -/

/-- A transfer of a packed buffer into the landing buffer leaves there what was packed. -/
theorem landed (f g : Vec F S2x2x256x8x64 .bf16) :
    mOther.view.write (Elt F) f (mOwn.view.read (Elt F) g) Finset.univ = g := by
  show (View.whole cc0_scratch1).write (Elt F) f ((View.whole cc0_scratch0).read (Elt F) g) Finset.univ = g
  rw [View.read_whole]
  exact View.write_whole_univ _ _ _

/-- The transfer to the partner. -/
theorem wp_transfer (K : Dev nD × Fin 3 → ℕ) (c n : Dev nD) (hn : n = peer c)
    {hsc : (Memref.whole cc0_scratch1 : Memref sig (Dev.tc n : Thread nD τ).2.kind .vmem S2x2x256x8x64 .bf16).view.ref.isScScratch = false}
    {hsrc : mOwn.view.WordExact} {hdst : mOther.view.WordExact}
    {hsem : DmaTarget.Typed .vmem (semOf 2) (.remote (Dev.tc n : Thread nD τ) mOther (semOf 1) hsc)}
    {α : Type} {R : α → sProp 𝕄} {k : PUnit → Prog (TpuEff nD τ sig (Elt F) Λ₀ .tc) α} (f : Vec F S2x2x256x8x64 .bf16) (W : Waits sig Unit) :
    iprop(records m K ∗ buf c cc0_scratch0 (pack m c) ∗ buf (peer c) cc0_scratch1 f
        ∗ owes (c : Thread nD τ) (tallyAt (cell (peer c) 2) () N) W
        ∗ dutyTok EX (cell c 1) 0 () ∗ dutyTok EX (cell (peer c) 2) 0 ())
      ⊢ iprop(((cred (tallyAt (cell c 1) () N) ∗ owes (c : Thread nD τ) 0 W)
            -∗ wp frame (wpE (defs₀ (F := F)) Variants.none (c : Thread nD τ) none) Set.univ (k ⟨⟩) R)
          -∗ wp frame (wpE (defs₀ (F := F)) Variants.none (c : Thread nD τ) none) Set.univ
              (.op (.enqueueDma mOwn (.remote (Dev.tc n : Thread nD τ) mOther (semOf 1) hsc) (semOf 2) hsrc hdst hsem) k) R) := by
  subst hn
  refine BIBase.Entails.trans ?_ (Rounds.wp_send_pointsTo Variants.none EX (sched m) (c : Thread nD τ) none (c' := (peer c : Thread nD τ)) (κ₁ := K (c, 1)) (κ₂ := K (peer c, 2))
    (src := mOwn) (dst := mOther) (sS := semOf 1) (sem := semOf 2) (q := fullShare) (fs := pack m c) (fd := f) (r₁ := 0) (r₂ := 0) (d₁ := ()) (d₂ := ())
    (mem_duties m c 1) (mem_duties m (peer c) 2) () () N rfl (amount_cell m c 1 ()) (amount_cell m (peer c) 2 ()) 0 (zero_add _).symm (W := W)
    (by rw [payload_cell]; exact Entails.of_eq (under_whole c cc0_scratch0 _))
    (by rw [payload_cell, landed]; unfold handed; rw [peer_peer]; exact Entails.of_eq (under_whole (peer c) cc0_scratch1 _)))
  iintro ⟨#HR, Hown, Hoth, HO, Ht1, Ht2⟩
  isplitr; · iapply (records_inv m K c 1); iexact HR
  isplitr; · iapply (records_inv m K (peer c) 2); iexact HR
  isplitl [Hown]; · iapply (Entails.of_eq (under_whole c cc0_scratch0 (pack m c)).symm); iexact Hown
  isplitl [Hoth]; · iapply (Entails.of_eq (under_whole (peer c) cc0_scratch1 f).symm); iexact Hoth
  isplitl [HO]; · iexact HO
  isplitl [Ht1]; · iexact Ht1
  isplitr; · iapply (records_reached m K c 1); iexact HR
  isplitl [Ht2]; · iexact Ht2
  iapply (records_reached m K (peer c) 2); iexact HR

/-- A wait for all that counter `k` is paid: it brings what the payment hands over, and the counter, at zero for good. -/
theorem wp_await (K : Dev nD × Fin 3 → ℕ) (c : Dev nD) (k : Fin 3) (n : ℕ) (hn : n = due k) {w : TpuEff nD τ sig (Elt F) Λ₀ .tc PUnit}
    (hw : ∀ X : PUnit → sProp 𝕄, wpE (defs₀ (F := F)) Variants.none (c : Thread nD τ) none Set.univ w X
      = waitSpec (c : Thread nD τ) Set.univ (semOf k) n X)
    {α : Type} {R : α → sProp 𝕄} {kt : PUnit → Prog (TpuEff nD τ sig (Elt F) Λ₀ .tc) α} (O : CellTallies nD τ sig Unit) (W : Waits sig Unit) :
    iprop(records m K ∗ cred (tallyAt (cell c k) () n) ∗ owes (c : Thread nD τ) O W ∗ MayWait (c : Thread nD τ) (semOf k) () O
        ∗ atPos EX (cell c k) 0 ∅ 0)
      ⊢ iprop(((owes (c : Thread nD τ) O (insert (semOf k, ()) W) ∗ semVal (cell c k) 0 ∗ handed m c k)
            -∗ wp frame (wpE (defs₀ (F := F)) Variants.none (c : Thread nD τ) none) Set.univ (kt ⟨⟩) R)
          -∗ wp frame (wpE (defs₀ (F := F)) Variants.none (c : Thread nD τ) none) Set.univ (.op w kt) R) := by
  iintro ⟨#HR, Hc, HO, Hmay, Hat⟩ Hk
  iapply (Rounds.wp_wait_rest_token Variants.none EX (sched m) (c : Thread nD τ) none (sm := semOf k) (κ := K (c, k))
      hw (Set.mem_univ _) () (O := O) (W := W) (R := 0) (m := 0) (T := ∅) (by rw [Nat.zero_add, hn, expect_cell])) $$ [Hc HO Hmay Hat]
  · isplitr; · iapply (records_inv m K c k); iexact HR
    isplitl [Hc]; · iexact Hc
    isplitl [HO]; · iexact HO
    isplitl [Hmay]; · iexact Hmay
    iexact Hat
  iintro ⟨HO, Hat, -, Hpay⟩
  ihave Hp := (Entails.of_eq (rest_cell m c k)) $$ Hpay
  ihave #HI := (records_inv m K c k) $$ HR
  imod (Rounds.cell_close EX (sched m) (Set.mem_univ (K (c, k))) (fun h => h) (R := 0 + 1) (duties_after m (cell c k))) $$ [Hat] with Hz
  · isplitr; · iexact HI
    iexact Hat
  iapply Hk
  isplitl [HO]; · iexact HO
  isplitl [Hz]; · iexact Hz
  iexact Hp

theorem rect_zero : (![0, 0, 0, 0] : Fin 4 → ℕ) = fun _ => 0 := funext fun a => by fin_cases a <;> rfl

/-- A load of the whole block of keys, or of values. -/
theorem read_K (inb) (f : Vec F S2x256x8x64 .bf16) :
    mK.view.readAt (Elt F) (Rect.unit (s := S2x256x8x64) ![0, 0, 0, 0] S2x256x8x64.size inb).toLoadRect f = f :=
  Memref.readAt_unit_zero (Elt F) cc0_stg1_0 rect_zero _ f
theorem read_V (inb) (f : Vec F S2x256x8x64 .bf16) :
    mV.view.readAt (Elt F) (Rect.unit (s := S2x256x8x64) ![0, 0, 0, 0] S2x256x8x64.size inb).toLoadRect f = f :=
  Memref.readAt_unit_zero (Elt F) cc0_stg2_0 rect_zero _ f

/-- The packed buffer and the landing buffer carry the same credit. -/
theorem own_credit : mOwn.view.dmaCredit = N := rfl

/-- After the two stores the buffer holds the packed keys and values. -/
theorem packs (c : Dev nD) (K V : Vec F S2x256x8x64 .bf16) (f : Vec F S2x2x256x8x64 .bf16) {i₀ i₁ j₀ j₁} :
    ((mOwn.access (halfRect 1 i₁)).loc (c : Thread nD τ) ↦{fullShare}
        (mOwn.access (halfRect 1 i₁)).write (Elt F) ((mOwn.access (halfRect 0 i₀)).write (Elt F) f
            (k0_pay2 (mK.view.readAt (Elt F) (Rect.unit (s := S2x256x8x64) ![0, 0, 0, 0] S2x256x8x64.size j₀).toLoadRect K)) Finset.univ)
          (k0_pay4 (k0_pay3 (mV.view.readAt (Elt F) (Rect.unit (s := S2x256x8x64) ![0, 0, 0, 0] S2x256x8x64.size j₁).toLoadRect V))) Finset.univ : sProp 𝕄)
      ⊢ buf c cc0_scratch0 (packed K V) := by
  rw [read_K, read_V, packed_of_stores]

set_option maxHeartbeats 1600000 in
/-- The body, run from `bodyPre` to `bodyPost`. -/
theorem sound_body (K : Dev nD × Fin 3 → ℕ) (c : Dev nD) (Kt : PUnit → sProp 𝕄) :
    iprop(((ghost m K c ∗ (cred (tallyAt (cell c 0) () 1) ∗ cred (tallyAt (cell c 2) () N)) ∗ levAts names level)
          ∗ (∃ f, buf c cc0_scratch0 f) ∗ (∃ f, buf c cc0_scratch1 f))
        ∗ (∃ W, owes (c : Thread nD τ) (owed₀ c) W)
        ∗ buf c cc0_stg0_0 (inQ m c) ∗ buf c cc0_stg1_0 (inK m c) ∗ buf c cc0_stg2_0 (inV m c) ∗ (∃ f, buf c cc0_stg3_0 f)
        ∗ ((done m c ∗ (∃ W, owes (c : Thread nD τ) 0 W)
            ∗ buf c cc0_stg0_0 (inQ m c) ∗ buf c cc0_stg1_0 (inK m c) ∗ buf c cc0_stg2_0 (inV m c) ∗ buf c cc0_stg3_0 (out m c)) -∗ Kt ⟨⟩))
      ⊢ wp frame (wpE (defs₀ (F := F)) Variants.none (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  sl_open_parts
  simp only [semSignalWord, semWaitWord, Prog.lift, Prog.bind_op, Prog.bind_ret, Prog.pure_eq_ret, wp_deviceId]
  simp only [signal_dev c]
  unfold ghost positions payments
  iintro ⟨⟨⟨⟨#HR, ⟨Ha0, Ha1, Ha2⟩, Ht0, Ht1, Ht2⟩, ⟨Hc0, Hc2⟩, #Hlev⟩, ⟨%f0, Hown⟩, ⟨%f1, Hland⟩⟩, ⟨%W, HO⟩, HQ, HK, HV, ⟨%f3, Hout⟩, Hk⟩
  -- the signal to the partner, with the landing buffer
  iapply (Rounds.wp_signal Variants.none EX (sched m) (c : Thread nD τ) none (dst := (peer c : Thread nD τ)) (κ := K (peer c, 0)) (d := ())
      (mem_duties m (peer c) 0) ((amount_cell m (peer c) 0 ()).trans rfl) () (tallyAt (cell (peer c) 2) () N) rfl) $$ [HO Ht0 Hland]
  · isplitr; · iapply (records_inv m K (peer c) 0); iexact HR
    isplitl [HO]; · iexact HO
    isplitl [Ht0]; · iexact Ht0
    isplitl [Hland]
    · iapply (Entails.of_eq (payload_cell m (peer c) 0 ()).symm)
      unfold handed; rw [peer_peer]
      isplitl [Hland]; · iexists f1; iexact Hland
      iapply (records_reached m K c 2); iexact HR
    · iapply (records_reached m K (peer c) 0); iexact HR
  iintro HO
  -- the wait on the barrier: the partner's landing buffer
  iapply (wp_await m K c 0 1 rfl (wpE_semWait_eq Variants.none (c : Thread nD τ) none Set.univ) (tallyAt (cell (peer c) 2) () N) W) $$ [Hc0 HO Ha0]
  · isplitr; · iexact HR
    isplitl [Hc0]; · iexact Hc0
    isplitl [HO]; · iexact HO
    isplitr; · iapply (mayWait_barrier c); iexact Hlev
    iexact Ha0
  iintro ⟨HO, Hz0, Hp⟩
  unfold handed
  icases Hp with ⟨⟨%f2, Hpeer⟩, -⟩
  -- keys and values, packed
  unfold buf
  iapply (wp_load Variants.none (c : Thread nD τ) none Set.univ (m := mK) (Finset.subset_univ _)) $$ HK; iintro HK
  iapply (wp_load Variants.none (c : Thread nD τ) none Set.univ (m := mOwn) (Finset.subset_univ _)) $$ Hown; iintro Hown
  iapply (wp_store Variants.none (c : Thread nD τ) none Set.univ (m := mOwn) (r := halfRect 0 inb_S2x2x256x8x64_S1x2x256x8x64_0_0_0_0_0) (Mk := Finset.univ) (Finset.subset_univ _)) $$ Hown; iintro Hown
  iapply (wp_load Variants.none (c : Thread nD τ) none Set.univ (m := mV) (Finset.subset_univ _)) $$ HV; iintro HV
  iapply (wp_load Variants.none (c : Thread nD τ) none Set.univ (m := mOwn) (Finset.subset_univ _)) $$ Hown; iintro Hown
  iapply (wp_store Variants.none (c : Thread nD τ) none Set.univ (m := mOwn) (r := halfRect 1 inb_S2x2x256x8x64_S1x2x256x8x64_1_0_0_0_0) (Mk := Finset.univ) (Finset.subset_univ _)) $$ Hown; iintro Hown
  ihave Hown := (packs c (inK m c) (inV m c) f0) $$ Hown
  -- the transfer, its completion, the partner's arrival
  iapply (wp_transfer m K c _ (send_dev c) f2 (insert (semOf 0, ()) W)) $$ [Hown Hpeer HO Ht1 Ht2]
  · isplitr; · iexact HR
    isplitl [Hown]; · iexact Hown
    isplitl [Hpeer]; · iexact Hpeer
    isplitl [HO]; · iexact HO
    isplitl [Ht1]; · iexact Ht1
    iexact Ht2
  iintro ⟨Hc1, HO⟩
  rw [← own_credit]
  iapply (wp_await m K c 1 _ own_credit (wpE_waitDma2_eq Variants.none (c : Thread nD τ) none Set.univ) 0 (insert (semOf 0, ()) W)) $$ [Hc1 HO Ha1]
  · isplitr; · iexact HR
    isplitl [Hc1]; · iexact Hc1
    isplitl [HO]; · iexact HO
    isplitr; · rw [MayWait_zero]; iempintro
    iexact Ha1
  iintro ⟨HO, Hz1, Hown⟩
  iapply (wp_await m K c 2 N rfl (wpE_waitDma2_eq Variants.none (c : Thread nD τ) none Set.univ) 0 (insert (semOf 1, ()) (insert (semOf 0, ()) W))) $$ [Hc2 HO Ha2]
  · isplitr; · iexact HR
    isplitl [Hc2]; · iexact Hc2
    isplitl [HO]; · iexact HO
    isplitr; · rw [MayWait_zero]; iempintro
    iexact Ha2
  iintro ⟨HO, Hz2, Hoth⟩
  -- the sixteen heads
  ihave H := (show iprop(buf c cc0_stg0_0 (inQ m c) ∗ handed m c 1 ∗ handed m c 2 ∗ buf c cc0_stg3_0 f3)
      ⊢ Held c (inQ m c) (pack m c) (pack m (peer c)) 0 from held_zero c _ _ _ f3) $$ [HQ Hown Hoth Hout]
  · isplitl [HQ]; · iexact HQ
    isplitl [Hown]; · iexact Hown
    isplitl [Hoth]; · iexact Hoth
    iexact Hout
  iapply (wp_head c _ _ _ 0 0 (by decide) (by decide)) $$ H; iintro H
  iapply (wp_head c _ _ _ 0 1 (by decide) (by decide)) $$ H; iintro H
  iapply (wp_head c _ _ _ 0 2 (by decide) (by decide)) $$ H; iintro H
  iapply (wp_head c _ _ _ 0 3 (by decide) (by decide)) $$ H; iintro H
  iapply (wp_head c _ _ _ 0 4 (by decide) (by decide)) $$ H; iintro H
  iapply (wp_head c _ _ _ 0 5 (by decide) (by decide)) $$ H; iintro H
  iapply (wp_head c _ _ _ 0 6 (by decide) (by decide)) $$ H; iintro H
  iapply (wp_head c _ _ _ 0 7 (by decide) (by decide)) $$ H; iintro H
  iapply (wp_head c _ _ _ 1 0 (by decide) (by decide)) $$ H; iintro H
  iapply (wp_head c _ _ _ 1 1 (by decide) (by decide)) $$ H; iintro H
  iapply (wp_head c _ _ _ 1 2 (by decide) (by decide)) $$ H; iintro H
  iapply (wp_head c _ _ _ 1 3 (by decide) (by decide)) $$ H; iintro H
  iapply (wp_head c _ _ _ 1 4 (by decide) (by decide)) $$ H; iintro H
  iapply (wp_head c _ _ _ 1 5 (by decide) (by decide)) $$ H; iintro H
  iapply (wp_head c _ _ _ 1 6 (by decide) (by decide)) $$ H; iintro H
  iapply (wp_head c _ _ _ 1 7 (by decide) (by decide)) $$ H; iintro H
  ihave H' := (held_all c (inQ m c) (pack m c) (pack m (peer c))) $$ H
  icases H' with ⟨HQ, Hown, Hoth, Hout⟩
  rw [wp_ret]; imodintro
  iapply Hk
  unfold done
  isplitl [Hown Hoth Hz0 Hz1 Hz2]
  · isplitl [Hown Hoth]
    · isplitl [Hown] <;> iassumption
    isplitl [Hz0]; · iexact Hz0
    isplitl [Hz1] <;> iassumption
  isplitl [HO]; · iexists _; iexact HO
  isplitl [HQ]; · iexact HQ
  isplitl [HK]; · iexact HK
  isplitl [HV]; · iexact HV
  iexact Hout

/-- The body obligation of the pipeline on device `c`. -/
theorem body_obligation (c : Dev nD) : BodyObligation (dats (F := F) m 0 c) (defs₀ (F := F)) Variants.none () Set.univ := fun t => by
  rw [show t = pt from fin_N0 t, bigSep_W0, bigSep_W0]
  simp only [owns_staged]
  show bodyPre m c ⊢ wp frame (wpE (defs₀ (F := F)) Variants.none (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3)
    (fun _ => bodyPost m c)
  unfold bodyPre before start
  iintro ⟨⟨⟨⟨%K, Hg⟩, Hc, Hlev⟩, Hown, Hland⟩, Ho, ⟨%d0, %g0, %h0, HQ⟩, ⟨%d1, %g1, %h1, HK⟩, ⟨%d2, %g2, %h2, HV⟩, ⟨%d3, %g3, -, HO⟩⟩
  have e0 : g0 = inQ m c := by rw [h0]; unfold Dat.before; rw [if_pos (fetch0_0 pt)]; rfl
  have e1 : g1 = inK m c := by rw [h1]; unfold Dat.before; rw [if_pos (fetch0_1 pt)]; rfl
  have e2 : g2 = inV m c := by rw [h2]; unfold Dat.before; rw [if_pos (fetch0_2 pt)]; rfl
  subst e0 e1 e2
  unfold Dat.owesAt Pipeline.owesWithin
  icases Ho with ⟨%W, -, HW⟩
  iapply (sound_body m K c fun _ => bodyPost m c)
  isplitl [Hg Hc Hlev Hown Hland]
  · isplitl [Hg Hc Hlev]
    · isplitl [Hg]; · iexact Hg
      isplitl [Hc] <;> iassumption
    isplitl [Hown] <;> iassumption
  isplitl [HW]; · iexists W; iexact HW
  isplitl [HQ]; · iexact HQ
  isplitl [HK]; · iexact HK
  isplitl [HV]; · iexact HV
  isplitl [HO]; · iexists g3; iexact HO
  unfold bodyPost Dat.owesAt Pipeline.owesWithin
  iintro ⟨Hd, ⟨%W', HW⟩, HQ, HK, HV, HO⟩
  isplitl [Hd]; · iexact Hd
  isplitl [HW]
  · iexists W'
    isplitr; · ipureintro; exact fun _ _ => Or.inl trivial
    iexact HW
  isplitl [HQ]; · iexists _; isplitr; · (ipureintro; rfl)
                  iexact HQ
  isplitl [HK]; · iexists _; isplitr; · (ipureintro; rfl)
                  iexact HK
  isplitl [HV]; · iexists _; isplitr; · (ipureintro; rfl)
                  iexact HV
  iexists _; isplitr; · (ipureintro; rfl)
  iexact HO

end Cert.SwapAttn

end
-- ==== Proof.Launch.lean ====
/-
The launch of all eight devices, and the run of the whole program.

The launch owns every counter, at zero, and mints one position per counter and one payment per counter. One global step
turns each counter into the shared invariant of the exchange, and deals the payments to those who make them: the payments of
a device's barrier and of its arrival go to its partner (`payments_dealt`, by the permutation `swap`), that of its completion stays.
`run_main` states what every execution ends in: each device's result array is what the pipeline leaves, and every counter is zero.
-/
module

public import proofs.«01_k».proof.Proof.Body
public import Idealize.ShloMosaic.Lib.Pipeline.CollectiveSegs

@[expose] public section

set_option maxRecDepth 16384

noncomputable section

namespace Cert.SwapAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the launch mints -/

/-- The kernel's own scoped semaphores: completion and arrival. -/
abbrev ownSem : Fin 2 → SemLoc sig := fun j => semOf j.succ

theorem ownSem_facts : Pipeline.OwnSemFacts cfg0.spec ownSem := by decide

/-- A device's counters, all of them. -/
def counters : Finset (GSem nD τ sig) := Finset.univ.map ⟨fun x : Dev nD × Fin 3 => cell x.1 x.2, fun _ _ h => Prod.ext (cell_inj h).1 (cell_inj h).2⟩

/-- One payment for each. -/
def duties₀ : Finset (GSem nD τ sig × ℕ × Unit) :=
  Finset.univ.map ⟨fun x : Dev nD × Fin 3 => (cell x.1 x.2, 0, ()), fun _ _ h =>
    Prod.ext (cell_inj (congrArg Prod.fst h)).1 (cell_inj (congrArg Prod.fst h)).2⟩

def u₀ : UU := (initOf (Pipeline.cells cfgs cellOf_inj) (Pipeline.launchToks cfgs cellOf_inj), initOf counters duties₀)

theorem three (Φ : Fin 3 → sProp 𝕄) : bigSep Finset.univ Φ = iprop(Φ 0 ∗ Φ 1 ∗ Φ 2) :=
  bigSep_univ_eq_bigSepL [0, 1, 2] (by decide) (by decide) Φ

/-- Device `c`'s share of it: per counter its state, its position, that round 0 is reached, and its payment. -/
def minted (c : Dev nD) : sProp 𝕄 :=
  iprop((bigSep Finset.univ fun k : Fin 3 => roundState EX (sched m) (cell c k) 0)
    ∗ (bigSep Finset.univ fun k : Fin 3 => atPos EX (cell c k) 0 ∅ 0) ∗ (bigSep Finset.univ fun k : Fin 3 => reached EX (cell c k) 0)
    ∗ bigSep Finset.univ fun k : Fin 3 => dutyTok EX (cell c k) 0 ())

theorem over_counters (Φ : GSem nD τ sig → sProp 𝕄) :
    bigSep counters Φ = bigSep Finset.univ fun c : Dev nD => bigSep Finset.univ fun k : Fin 3 => Φ (cell c k) := by
  unfold counters; rw [bigSep_map, bigSep_univ_prod]; rfl

theorem over_duties (Φ : GSem nD τ sig × ℕ × Unit → sProp 𝕄) :
    bigSep duties₀ Φ = bigSep Finset.univ fun c : Dev nD => bigSep Finset.univ fun k : Fin 3 => Φ (cell c k, 0, ()) := by
  unfold duties₀; rw [bigSep_map, bigSep_univ_prod]; rfl

theorem mint : BI.own (EX (initOf counters duties₀)) ⊢ (|==> bigSep Finset.univ (minted m) : sProp 𝕄) := by
  iintro H
  imod (Rounds.fund EX (sched m) counters duties₀) $$ H with ⟨Hst, Hr, Hat, Htok⟩
  imodintro
  ihave Hst := (Entails.of_eq (over_counters fun g => roundState EX (sched m) g 0)) $$ Hst
  ihave Hat := (Entails.of_eq (over_counters (F := F) fun g => atPos EX g 0 ∅ 0)) $$ Hat
  ihave Hr := (Entails.of_eq (over_counters (F := F) fun g => reached EX g 0)) $$ Hr
  ihave Htok := (Entails.of_eq (over_duties (F := F) fun x => dutyTok EX x.1 x.2.1 x.2.2)) $$ Htok
  unfold minted; simp only [bigSep_sep']
  isplitl [Hst]; · iexact Hst
  isplitl [Hat]; · iexact Hat
  isplitl [Hr] <;> iassumption

/-! ## Counters into invariants -/

theorem ownSems_eq (c : Dev nD) : (Pipeline.ownSems0 (Ix := Unit) (Name := ℕ) (U := UU) (Lvl := ℕ) (Val := Elt F) (τ := τ) ownSem c : sProp 𝕄)
    = iprop(semVal (cell c 1) 0 ∗ semVal (cell c 2) 0) := by
  rw [Pipeline.ownSems0_eq_of_list c ownSem [0, 1] (by decide) (by decide)]; rfl

theorem unscopedSems_eq (c : Dev nD) : (unscopedSems0 c : sProp 𝕄) = semVal (cell c 0) 0 := by
  unfold unscopedSems0; rw [bigSep_eq_bigSepL_of_eq [semOf 0] (by decide) (by decide)]; rfl

/-- A device's three counters, at zero and with their states, become invariants. -/
theorem allocated (c : Dev nD) :
    iprop(Pipeline.ownSems0 (Ix := Unit) (Name := ℕ) (U := UU) (Lvl := ℕ) (Val := Elt F) (τ := τ) ownSem c ∗ unscopedSems0 c ∗ minted m c)
      ⊢ |={Set.univ}=> iprop((bigSep Finset.univ fun k : Fin 3 => iprop(∃ κ : ℕ, cellInv EX (sched m) κ (cell c k)))
          ∗ (bigSep Finset.univ fun k : Fin 3 => atPos EX (cell c k) 0 ∅ 0) ∗ (bigSep Finset.univ fun k : Fin 3 => reached EX (cell c k) 0)
          ∗ bigSep Finset.univ fun k : Fin 3 => dutyTok EX (cell c k) 0 ()) := by
  have alloc : iprop((bigSep Finset.univ fun k : Fin 3 => semVal (cell c k) 0) ∗ bigSep Finset.univ fun k : Fin 3 => roundState EX (sched m) (cell c k) 0)
      ⊢ (|={Set.univ}=> bigSep Finset.univ fun k : Fin 3 => iprop(∃ κ : ℕ, cellInv EX (sched m) κ (cell c k)) : sProp 𝕄) := by
    rw [← bigSep_sep']
    exact (bigSep_mono fun k _ => (Rounds.body_intro EX (sched m) (cell c k)).trans inv_alloc).trans (bigSep_fupd _ _)
  rw [ownSems_eq, unscopedSems_eq]
  unfold minted
  iintro ⟨⟨H1, H2⟩, H0, Hst, Hrest⟩
  imod alloc $$ [H0 H1 H2 Hst] with Hinv
  · isplitr [Hst]
    · rw [three]
      isplitl [H0]; · iexact H0
      isplitl [H1] <;> iassumption
    · iexact Hst
  imodintro
  isplitl [Hinv] <;> iassumption

/-! ## The payments dealt to those who make them -/

theorem payments_dealt : (bigSep Finset.univ fun c : Dev nD => bigSep Finset.univ fun k : Fin 3 => (dutyTok EX (cell c k) 0 () : sProp 𝕄))
    ⊢ bigSep Finset.univ fun c : Dev nD => payments c := by
  simp only [three]
  unfold payments
  simp only [bigSep_sep']
  rw [bigSep_univ_equiv swap (fun c : Dev nD => (dutyTok EX (cell c 0) 0 () : sProp 𝕄)),
    bigSep_univ_equiv swap (fun c : Dev nD => (dutyTok EX (cell c 2) 0 () : sProp 𝕄))]
  exact BIBase.Entails.rfl

/-- What is shared goes to every device. -/
theorem shared_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem dealt :
    (bigSep Finset.univ fun c : Dev nD => iprop((bigSep Finset.univ fun k : Fin 3 => iprop(∃ κ : ℕ, cellInv EX (sched m) κ (cell c k)))
          ∗ (bigSep Finset.univ fun k : Fin 3 => atPos EX (cell c k) 0 ∅ 0) ∗ (bigSep Finset.univ fun k : Fin 3 => reached EX (cell c k) 0)
          ∗ bigSep Finset.univ fun k : Fin 3 => dutyTok EX (cell c k) 0 ()) : sProp 𝕄)
      ⊢ bigSep Finset.univ fun c : Dev nD => iprop(∃ K, ghost m K c) := by
  rw [bigSep_sep', bigSep_sep', bigSep_sep', ← bigSep_univ_prod (fun x : Dev nD × Fin 3 => iprop(∃ κ : ℕ, cellInv EX (sched m) κ (cell x.1 x.2))),
    ← bigSep_univ_prod (fun x : Dev nD × Fin 3 => (reached EX (cell x.1 x.2) 0 : sProp 𝕄))]
  iintro ⟨HI, Hat, #HR, Htok⟩
  ihave HK := (BI.bigSep_exists_pi Finset.univ (fun (x : Dev nD × Fin 3) (κ : ℕ) => (cellInv EX (sched m) κ (cell x.1 x.2) : sProp 𝕄))) $$ HI
  icases HK with ⟨%K, #HI⟩
  ihave Hpay := (payments_dealt (F := F)) $$ Htok
  iapply (shared_out (R := records m K) (Φ := fun c => iprop(positions c ∗ payments c)) fun c => by
    iintro ⟨HR, Hp⟩; iexists K; unfold ghost; isplitl [HR] <;> iassumption)
  isplitr
  · unfold records; isplitl; · iexact HI
    iexact HR
  · simp only [bigSep_sep']
    isplitl [Hat]
    · unfold positions; simp only [three]; iexact Hat
    · iexact Hpay

theorem global_step :
    (bigSep Finset.univ fun c => iprop(Pipeline.ownSems0 (Ix := Unit) (Name := ℕ) (U := UU) (Lvl := ℕ) (Val := Elt F) (τ := τ) ownSem c
        ∗ unscopedSems0 c ∗ minted m c) : sProp 𝕄) ⊢ |={Set.univ}=> bigSep Finset.univ fun c : Dev nD => iprop(∃ K, ghost m K c) :=
  ((bigSep_mono fun c _ => allocated m c).trans (bigSep_fupd _ _)).trans (BI.fupd_mono (dealt m))

/-! ## Entering and leaving the region -/

/-- Partners owe each other the transfer and the signal, so each is credited both. -/
theorem credited (c : Dev nD) :
    (Pipeline.launchCred owed₀ c : sProp 𝕄) ⊢ iprop(cred (tallyAt (cell c 0) () 1) ∗ cred (tallyAt (cell c 2) () N)) := by
  rw [show owed₀ = fun d : Dev nD => tallyAt (cell (peer d) 2) () N + tallyAt (cell (peer d) 0) () 1 from rfl, Pipeline.launchCred_add]
  iintro ⟨H2, H0⟩
  isplitl [H0]
  · iapply (Pipeline.launchCred_tallyAt (semOf 0) peer peer peer_peer peer_peer () 1 c); iexact H0
  · iapply (Pipeline.launchCred_tallyAt (semOf 2) peer peer peer_peer peer_peer () N c); iexact H2

theorem start_intro (c : Dev nD) :
    iprop(Pipeline.unscopedRestP Pipeline.Prefetch.none cfg0.spec c (fun b => m ((c : Thread nD τ).loc b)) ∗ levAts names level
        ∗ Pipeline.launchCred owed₀ c ∗ prngReg c (ρ c) ∗ ∃ K, ghost m K c)
      ⊢ |={Set.univ}=> iprop(start m c ∗ emp) := by
  iintro ⟨-, Hlev, Hcr, -, HG⟩
  ihave Hc := (credited (F := F) c) $$ Hcr
  imodintro
  unfold start
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, H0, H1⟩
  isplitl [Hs]; · iexact Hs
  isplitl [H0] <;> iassumption

theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = done m c from rfl, scopedRest0_eq, ownSems_eq, unscopedSems_eq]
  unfold done
  iintro ⟨⟨H0, H1⟩, Hz0, Hz1, Hz2⟩
  isplitl [Hz0]; · iexact Hz0
  isplitl [Hz1 Hz2]
  · isplitl [Hz1] <;> iassumption
  isplitl [H0]
  · iexists _; iexact H0
  · iexists _; iexact H1

theorem waits (c : Dev nD) : (levAts names level : sProp 𝕄) ⊢ Pipeline.cellsWaits cfgs (dats m) () 0 c :=
  Pipeline.cellsWaits_intro cfgs (dats m) () 0 c fun w s t => by
    rcases t with ⟨_ | _, ht⟩
    · exact mayWait_outside c _ (by fin_cases w <;> fin_cases s <;> decide)
    · show _ ⊢ MayWait _ _ _ 0
      rw [MayWait_zero]; iintro -; iempintro

theorem share_full (c : Dev nD) (w : Fin cfg0.W) : (dats m 0 c).share w = fullShare := by unfold Dat.share; split <;> rfl

/-! ## The run -/

/-- From any memory with zero counters every fair execution terminates; each device's window arrays then hold what the
    pipeline leaves, and every counter is zero. -/
theorem run_main : θ_run defs (onTc (τ := τ) (main (F := F))) (⟨m, fun _ => 0, ρ⟩ : MemSt nD τ sig (Elt F))
    (fun r => (∀ (c : Dev nD) (w : Fin cfg0.W), r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EP defs₀ Variants.none m ρ main
    (hmain := fun _ => rfl)
    (hbody := body_obligation m) (hne := block_pos0) (harr := arr_whole0) (hstage := stage_whole0) (hshare := share_full m)
    (hdistinct := winFacts0.arr_inj)
    (O₀ := owed₀) (howed₀ := fun _ => rfl) (howedN := fun _ => rfl)
    (L := names) (lv := level) (hL := names_off) (hwaits := waits m)
    (G := minted m) (G' := fun c => iprop(∃ K, ghost m K c)) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := global_step m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.SwapAttn

end
-- ==== Proof.Result.lean ====
/-
The arrays the run ends with, for any float values.

The pipeline has one point, and each window covers its whole array; so the blocks that it brings in are the arguments
themselves (`inQ_eq`, `inK_eq`, `inV_eq`), the one block that it writes back is the whole result (`result_array`), and the
arguments end unchanged. `run_arrays` says so of every execution.
-/
module

public import proofs.«01_k».proof.Proof.Launch

@[expose] public section

set_option maxRecDepth 16384

noncomputable section

namespace Cert.SwapAttn

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The one block of the first argument is the whole of it. -/
theorem inQ_eq (c : Dev nD) : inQ m c = m ((c : Thread nD τ).loc main_arg0) :=
  Memref.read_access_unit_zero (Elt F) main_arg0 (off := fun a => win0_0.index (0 : Fin 1) a * main_arg0.ty.shape.size a)
    (funext fun a => by fin_cases a <;> rfl) (fun a => by fin_cases a <;> decide) _

/-- The same of the keys. -/
theorem inK_eq (c : Dev nD) : inK m c = m ((c : Thread nD τ).loc main_arg1) :=
  Memref.read_access_unit_zero (Elt F) main_arg1 (off := fun a => win0_1.index (0 : Fin 1) a * main_arg1.ty.shape.size a)
    (funext fun a => by fin_cases a <;> rfl) (fun a => by fin_cases a <;> decide) _

/-- The same of the values. -/
theorem inV_eq (c : Dev nD) : inV m c = m ((c : Thread nD τ).loc main_arg2) :=
  Memref.read_access_unit_zero (Elt F) main_arg2 (off := fun a => win0_2.index (0 : Fin 1) a * main_arg2.ty.shape.size a)
    (funext fun a => by fin_cases a <;> rfl) (fun a => by fin_cases a <;> decide) _

/-- The one block of the result is the whole of it. -/
theorem read_result (t : Fin cfg0.N) (f : main_v1.ty.Contents (Elt F)) : (win0_3.blk t).view.read (Elt F) f = f := by
  rw [show t = (0 : Fin 1) from Subsingleton.elim (α := Fin 1) _ _]
  exact Memref.read_access_unit_zero (Elt F) main_v1 (off := fun a => win0_3.index (0 : Fin 1) a * main_v1.ty.shape.size a)
    (funext fun a => by fin_cases a <;> rfl) (fun a => by fin_cases a <;> decide) f

/-- What the pipeline leaves in the result array is what the body computed. -/
theorem result_array (c : Dev nD) : (dats m 0 c).arrAt 3 cfg0.N = out m c := by
  have h := (dats m 0 c).read_blk_arrAt (3 : Fin 4) (out m c) (fun t _ => (read_result t (out m c)).symm) t0_0 (flush0_3 t0_0)
  exact ((read_result t0_0 _).symm.trans h).trans (read_result t0_0 _)

/-- What device `c` computes, from the three arguments of its own and its partner's. -/
theorem out_eq (c : Dev nD) : out m c = attended (m ((c : Thread nD τ).loc main_arg0))
    (packed (m ((c : Thread nD τ).loc main_arg1)) (m ((c : Thread nD τ).loc main_arg2)))
    (packed (m ((peer c : Thread nD τ).loc main_arg1)) (m ((peer c : Thread nD τ).loc main_arg2))) := by
  unfold out pack; rw [inQ_eq, inK_eq, inV_eq, inK_eq, inV_eq]

/-- Every fair execution terminates with each device's result as `out` states it, the arguments unchanged and every counter zero. -/
theorem run_arrays : θ_run defs (onTc (τ := τ) (main (F := F))) (⟨m, fun _ => 0, ρ⟩ : MemSt nD τ sig (Elt F))
    (fun r => (∀ c : Dev nD, r.2.mem ((c : Thread nD τ).loc main_v1) = out m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) :=
  (θ_run _ _ _).mono (fun _ h => ⟨fun c => ⟨(h.1 c 3).trans (result_array m c), (h.1 c 0).trans ((dats m 0 c).arrAt_in 0 rfl _),
    (h.1 c 1).trans ((dats m 0 c).arrAt_in 1 rfl _), (h.1 c 2).trans ((dats m 0 c).arrAt_in 2 rfl _)⟩, h.2⟩) (run_main m ρ)

end Cert.SwapAttn

end
-- ==== Proof.Attention.lean ====
/-
Attention of one query over a finite family of keys, in the extended reals.

The scores are the scaled dot products of the query with the keys, the weights are the exponentials of the scores less their
maximum, divided by the sum of these exponentials, and the result is the sum of the values by their weights. None of it depends on the order in
which the keys are listed (`attention_reindex`): this is all that the exchange of halves needs, and it holds at infinities too.
-/
module

public import Idealize.ShloMosaic.Lib.Pointwise

@[expose] public section

noncomputable section

namespace Cert.SwapAttn

open Idealize.ShloMosaic

variable {ι κ : Type} [Fintype ι] [Fintype κ]

/-- The scaled dot product of the query with key `j`; the factor is 1/8. -/
def score (q : Fin 64 → EReal) (k : ι → Fin 64 → EReal) (j : ι) : EReal :=
  (∑ f, q f * k j f) * Ideal.ofBits FTy.f32 0x3E000000#32

/-- The greatest score, from minus infinity on. -/
def top (q : Fin 64 → EReal) (k : ι → Fin 64 → EReal) : EReal :=
  Finset.univ.fold max (Ideal.ofBits FTy.f32 0xFF800000#32) (score q k)

/-- The exponential of a score less the greatest. -/
def raised (q : Fin 64 → EReal) (k : ι → Fin 64 → EReal) (j : ι) : EReal := Ideal.exp (score q k j - top q k)

/-- Feature `l` of the values summed by their weights. -/
def attention (q : Fin 64 → EReal) (k v : ι → Fin 64 → EReal) (l : Fin 64) : EReal :=
  ∑ j, Ideal.div (raised q k j) (∑ i, raised q k i) * v j l

theorem top_reindex (e : ι ≃ κ) (q : Fin 64 → EReal) (k : κ → Fin 64 → EReal) : top q (fun j => k (e j)) = top q k := by
  classical
  unfold top
  rw [← Finset.univ_map_equiv_to_embedding e, Finset.fold_map]
  rfl

/-- Listing the keys and values in another order changes nothing. -/
theorem attention_reindex (e : ι ≃ κ) (q : Fin 64 → EReal) (k v : κ → Fin 64 → EReal) (l : Fin 64) :
    attention q (fun j => k (e j)) (fun j => v (e j)) l = attention q k v l := by
  have hr (j : ι) : raised q (fun j => k (e j)) j = raised q k (e j) := by unfold raised; rw [top_reindex]; rfl
  unfold attention
  simp only [hr]
  rw [Equiv.sum_comp e (raised q k)]
  exact Equiv.sum_comp e fun j => Ideal.div (raised q k j) (∑ i, raised q k i) * v j l

end Cert.SwapAttn

end
-- ==== Proof.ReferenceValue.lean ====
/-
What the reference computes, in the extended reals: for each batch, query and head, the attention over all 512 keys.
-/
module

public import proofs.«01_k».proof.Proof.Attention
public import proofs.«01_k».proof.Proof.Gen.ReferenceIdeal.Run

@[expose] public section

set_option maxRecDepth 16384

noncomputable section

namespace Cert.SwapAttn.Whole

open Cert.ReferenceIdeal Cert.ReferenceIdeal.Gen
open Idealize.ShloMosaic Idealize.ShloMosaic.TcCoe Idealize.SL.Sem

variable (Q K V : FVec Ideal S2x512x8x64 .bf16)

/-- All scores, scaled. -/
def scores : FVec Ideal S2x8x512x512 .f32 :=
  mulf (Host.dotGeneral dot_S2x512x8x64_S2x512x8x64_S2x8x512x512_3_3_1_1_02_02 none (extf .f32 Q bitsLt_bf16_f32) (extf .f32 K bitsLt_bf16_f32))
    (broadcastInDim S2x8x512x512 ![] bcast_S_S2x8x512x512 (constant S_ .f32 0x3E000000#32))

/-- A number per query repeated for every key. -/
def repeated (x : FVec Ideal S2x8x512 .f32) : FVec Ideal S2x8x512x512 .f32 :=
  broadcastInDim S2x8x512x512 ![0, 1, 2, 3] bcast_S2x8x512x1_S2x8x512x512_0_1_2_3
    (broadcastInDim S2x8x512x1 ![0, 1, 2] bcast_S2x8x512_S2x8x512x1_0_1_2 x)

/-- Their exponentials, each row's greatest subtracted first. -/
def raisedAll : FVec Ideal S2x8x512x512 .f32 :=
  Host.exp (subf (scores Q K) (repeated (Host.reduce FloatOps.maximumf (scores Q K) (constant S_ .f32 0xFF800000#32) reducesTo_S2x8x512x512_S2x8x512_d3 h_S_)))

/-- The whole result of the reference. -/
def result : FVec Ideal S2x512x8x64 .f32 :=
  transpose S2x512x8x64 [0, 3, 1, 2]
    (Host.dotGeneral dot_S2x512x8x64_S2x8x512x512_S2x8x64x512_1_3_3_2_02_01 none (extf .f32 V bitsLt_bf16_f32)
      (Host.divf (raisedAll Q K) (repeated (Host.reduceAdd (raisedAll Q K) (constant S_ .f32 0x00000000#32) reducesTo_S2x8x512x512_S2x8x512_d3 h_S_))))
    transposes_S2x8x64x512_S2x512x8x64_0_3_1_2

/-- One element of it. -/
theorem result_apply (b : Fin 2) (r : Fin 512) (h : Fin 8) (l : Fin 64) :
    result Q K V (ix4 b r h l)
      = attention (fun f => Q (ix4 b r h f)) (fun j f => K (ix4 b j h f)) (fun (j : Fin 512) f => V (ix4 b j h f)) l := by
  pointwise [result, raisedAll, repeated, scores, attention, raised, top, score]
  exact Finset.sum_congr rfl fun j _ => mul_comm _ _

/-- Every execution of the reference terminates with this result and leaves its arguments. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v16)
          = result (m ((c : Thread nD τ).loc main_arg0)) (m ((c : Thread nD τ).loc main_arg1)) (m ((c : Thread nD τ).loc main_arg2))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2) :=
  Value.run m ρ

end Cert.SwapAttn.Whole

end
-- ==== Proof.Frames.lean ====
/-
The frames: each program runs from any memory, leaves its arguments and every counter at zero. Kernel and idealized kernel have
the same text, so the one run, stated for any float values, serves both.
-/
module

public import proofs.«01_k».proof.Defs
public import proofs.«01_k».proof.Proof.Gen.Kernel
public import proofs.«01_k».proof.Proof.Result
public import proofs.«01_k».proof.Proof.ReferenceValue
public import Idealize.ShloMosaic.Lib.Quiescent

@[expose] public section

set_option maxRecDepth 16384

noncomputable section

namespace Cert.SwapAttn

open Idealize.ShloMosaic Idealize.SL.Sem

/-- The two programs' bodies are the same, case by case of the processor and the label. -/
theorem bodies_same : @Cert.Kernel.defs₀ Bits _ Cert.Kernel.Gen.facts = @Cert.KernelIdeal.defs₀ Bits _ Cert.KernelIdeal.Gen.facts := by
  funext p l a
  rcases p with _ | _ | _
  · rcases l with ⟨_ | n, h⟩
    · obtain ⟨t, s⟩ := a
      rfl
    · exact absurd h (by omega)
  · rfl
  · rfl

/-- So are the programs. -/
theorem programs_same : @Cert.Kernel.defs Bits _ Cert.Kernel.Gen.facts = @Cert.KernelIdeal.defs Bits _ Cert.KernelIdeal.Gen.facts :=
  congrArg (Pipeline.defs _) bodies_same

/-- The kernel's frame: the run at the machine's own floats. -/
theorem frame_kernel : Cert.quiescent_Kernel (hKernel := Cert.Kernel.Gen.facts) := fun m ρ _ => by
  rw [programs_same]
  exact (θ_run Cert.KernelIdeal.defs _ _).mono (fun _ h => ⟨fun c => (h.1 c).2, h.2⟩) (run_arrays (F := Bits) m ρ)

/-- The idealized kernel's frame: the same run at the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_arrays (F := Ideal) m ρ)

/-- The reference's frame; it has no semaphores. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Whole.run_result m ρ)

end Cert.SwapAttn

end
-- ==== Proof.HeadValue.lean ====
/-
What the kernel computes for one head, in the extended reals: each of the 256 queries attends to 512 keys, the device's own
256 first and its partner's 256 after them.
-/
module

public import proofs.«01_k».proof.Proof.Attention
public import proofs.«01_k».proof.Proof.Contents

@[expose] public section

set_option maxRecDepth 16384

noncomputable section

namespace Cert.SwapAttn

open Cert.KernelIdeal Cert.KernelIdeal.Gen
open Idealize.ShloMosaic

/-- The rows of two blocks one after the other. -/
def joined (x₀ x₁ : S1x1x256x1x64.Idx → EReal) (j : Fin 512) (f : Fin 64) : EReal :=
  if h : j.val < 256 then x₀ (ix5 0 0 ⟨j.val, h⟩ 0 f) else x₁ (ix5 0 0 ⟨j.val - 256, by have := j.isLt; omega⟩ 0 f)

/-- One element of a head's result: the attention of that row's query over the joined keys and values. -/
theorem headOut_apply (q : FVec Ideal S1x256x1x64 .bf16) (k₀ k₁ v₀ v₁ : FVec Ideal S1x1x256x1x64 .bf16) (r : Fin 256) (l : Fin 64) :
    headOut (F := Ideal) q k₀ k₁ v₀ v₁ (ix4 0 r 0 l)
      = attention (fun f => q (ix4 0 r 0 f)) (joined k₀ k₁) (joined v₀ v₁) l := by
  unfold headOut
  pointwise [k0_pay5, k0_pay6, k0_pay7, k0_pay8, attention, raised, top, score, joined]

end Cert.SwapAttn

end
-- ==== Proof.Equation.lean ====
/-
The equation between the two programs, in the extended reals: what device `c` computes from its part of the arguments and its
partner's is its part of the reference's result.

A device holds the rows `row c` of each array: the lower half of the 512 on a device with x = 0, the upper half on one with
x = 1. The kernel lists a device's own keys first, so a device with x = 1 lists the halves in the other order than the whole
array; `order c` is the permutation between the two lists.
-/
module

public import proofs.«01_k».proof.Proof.HeadValue
public import proofs.«01_k».proof.Proof.ReferenceValue
public import proofs.«01_k».proof.Proof.Protocol

@[expose] public section

set_option maxRecDepth 16384

noncomputable section

namespace Cert.SwapAttn

open Cert.KernelIdeal (nD S2x256x8x64 S1x1x256x1x64)
open Idealize.ShloMosaic

/-- A whole array's shape. -/
abbrev Arr : Shape := ⟨4, ![2, 512, 8, 64]⟩

/-- Device `c`'s part of a whole array. -/
abbrev part {α : Type} (c : Dev nD) (X : Arr.Idx → α) : S2x256x8x64.Idx → α :=
  Layout.blockN ⟨4, ![2, 256, 8, 64]⟩ ⟨4, ![2, 512, 8, 64]⟩ (Layout.meshBlock [2, 2, 2] ![[], [0], [], []] c) X

/-- The row of the whole array that is row `r` of device `c`'s part. -/
def row (c : Dev nD) (r : Fin 256) : Fin 512 :=
  ⟨c.val / 4 * 256 + r.val, by have := c.isLt; have h : c.val / 4 < 2 := Nat.div_lt_of_lt_mul this; have := r.isLt; omega⟩

/-- The mesh's first coordinate names the half. -/
theorem half_of : ∀ c : Dev nD, ((Layout.meshBlock [2, 2, 2] ![[], [0], [], []] c) (1 : Fin 4)).val = c.val / 4 := by decide

theorem part_apply {α : Type} (c : Dev nD) (X : Arr.Idx → α) (b : Fin 2) (r : Fin 256) (h : Fin 8) (l : Fin 64) :
    part c X (ix4 b r h l) = X (ix4 b (row c r) h l) := by
  refine congrArg X (funext fun a => Fin.ext ?_)
  match a with
  | ⟨0, _⟩ => show 0 * 2 + b.val = b.val; omega
  | ⟨1, _⟩ => show ((Layout.meshBlock [2, 2, 2] ![[], [0], [], []] c) (1 : Fin 4)).val * 256 + r.val = c.val / 4 * 256 + r.val; rw [half_of]
  | ⟨2, _⟩ => show 0 * 8 + h.val = h.val; omega
  | ⟨3, _⟩ => show 0 * 64 + l.val = l.val; omega

/-- From the order in which device `c` lists the keys to that of the whole array: a shift by the rows below its own. -/
def order (c : Dev nD) : Fin 512 ≃ Fin 512 := Equiv.addRight (row c 0)

theorem order_val (c : Dev nD) (j : Fin 512) : (order c j).val = (j.val + c.val / 4 * 256) % 512 := by
  show (j + row c 0).val = _
  rw [Fin.val_add]; rfl

/-- The first 256 keys that it lists are its own. -/
theorem order_own (c : Dev nD) (j : Fin 512) (h : j.val < 256) : order c j = row c ⟨j.val, h⟩ := by
  apply Fin.ext
  rw [order_val]
  show _ = c.val / 4 * 256 + j.val
  have hc : c.val / 4 < 2 := Nat.div_lt_of_lt_mul c.isLt
  omega

/-- The others are its partner's. -/
theorem order_other (c : Dev nD) (j : Fin 512) (h : ¬ j.val < 256) :
    order c j = row (peer c) ⟨j.val - 256, by have := j.isLt; omega⟩ := by
  apply Fin.ext
  rw [order_val]
  show _ = (c.val + 4) % 8 / 4 * 256 + (j.val - 256)
  have hc : c.val < 8 := c.isLt
  have hj := j.isLt
  omega

/-- A head of a packed buffer of device `c`'s parts. -/
theorem packedHead_part {α : Type} (c : Dev nD) (K V : Arr.Idx → α) (s b : Fin 2) (h : Fin 8) (r : Fin 256) (f : Fin 64) :
    packedHead (packed (part c K) (part c V)) s b h (ix5 0 0 r 0 f) = (if s.val = 0 then K else V) (ix4 b (row c r) h f) := by
  show (if s.val = 0 then part c K (ix4 b r h f) else part c V (ix4 b r h f)) = _
  rw [part_apply, part_apply]
  split <;> rfl

/-- The joined keys (`s` = 0) or values (`s` = 1) of a head are those of the whole array in device `c`'s order. -/
theorem joined_parts (c : Dev nD) (K V : Arr.Idx → EReal) (s b : Fin 2) (h : Fin 8) :
    joined (packedHead (packed (part c K) (part c V)) s b h) (packedHead (packed (part (peer c) K) (part (peer c) V)) s b h)
      = fun j f => (if s.val = 0 then K else V) (ix4 b (order c j) h f) := by
  funext j f
  unfold joined
  by_cases hj : j.val < 256
  · rw [dif_pos hj, packedHead_part, order_own c j hj]
  · rw [dif_neg hj, packedHead_part, order_other c j hj]

/-- Device `c`'s result is its part of the reference's. -/
theorem attended_part (c : Dev nD) (Q K V : FVec Ideal Arr .bf16) :
    attended (F := Ideal) (part c Q) (packed (part c K) (part c V)) (packed (part (peer c) K) (part (peer c) V))
      = part c (Whole.result Q K V) := by
  funext i
  obtain ⟨b, r, h, l, rfl⟩ : ∃ b r h l, i = ix4 b r h l := ⟨i 0, i 1, i 2, i 3, ValueIdx.eq_ix4 i⟩
  rw [part_apply]
  refine (headOut_apply (queryHead (part c Q) b h) (packedHead (packed (part c K) (part c V)) 0 b h)
    (packedHead (packed (part (peer c) K) (part (peer c) V)) 0 b h) (packedHead (packed (part c K) (part c V)) 1 b h)
    (packedHead (packed (part (peer c) K) (part (peer c) V)) 1 b h) r l).trans ?_
  refine Eq.trans ?_ (Whole.result_apply Q K V b (row c r) h l).symm
  rw [joined_parts c K V 0 b h, joined_parts c K V 1 b h]
  have hq : (fun f => queryHead (part c Q) b h (ix4 0 r 0 f)) = fun f => Q (ix4 b (row c r) h f) :=
    funext fun f => part_apply c Q b r h f
  rw [hq]
  exact attention_reindex (order c) _ (fun j f => K (ix4 b j h f)) (fun j f => V (ix4 b j h f)) l

end Cert.SwapAttn

end
-- ==== Proof.lean ====
/-
The proof of `Cert.Claim`: five claims about attention whose keys and values are spread over pairs of devices.

The modules under Proof/, in the order in which they build on each other:
  Contents        what the kernel's buffers hold, index by index
  Protocol        the exchange between partners: who pays which counter, and what each payment hands over
  Heads, Body     one head of the kernel; the whole body on one device
  Launch, Result  the run on all eight devices, and the arrays that it ends with, for any float values
  Attention       attention of one query, in the extended reals, in whatever order the keys are listed
  HeadValue       one head of the kernel is that attention
  ReferenceValue  so is each element of the reference's result
  Equation        each device's result is its part of the reference's
  Frames          the three frames
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

open Cert.SwapAttn in
/-- The value claim: each device's result is its part of the reference's result, whatever the arguments hold, infinities included. -/
theorem value : Cert.algebraic_KernelIdeal_ReferenceIdeal (hKernelIdeal := Cert.KernelIdeal.Gen.facts) (hReferenceIdeal := Cert.ReferenceIdeal.Gen.facts) := by
  intro m g m' g' _ hargs
  refine ⟨Whole.result _ _ _, (θ_run _ _ _).mono (fun _ h c => ⟨(h.1 c).1.trans ?_, (h.1 c).2⟩) (run_arrays (F := Ideal) m g),
    (θ_run _ _ _).mono (fun _ h => h 0) (Whole.run_result m' g')⟩
  rw [out_eq, (hargs c).1, (hargs c).2.1, (hargs c).2.2, (hargs (peer c)).2.1, (hargs (peer c)).2.2]
  exact attended_part c _ _ _

/-- The five claims. -/
theorem claim : Cert.Claim := ⟨Cert.Kernel.Gen.facts, Cert.KernelIdeal.Gen.facts, Cert.ReferenceIdeal.Gen.facts,
  Cert.SwapAttn.frame_kernel, Cert.SwapAttn.frame_ideal, Cert.SwapAttn.frame_reference, trivial, value⟩

end Cert.Proof

end
